-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100x1000x128 : Shape := ⟨3, ![100, 1000, 128]⟩
abbrev S100 : Shape := ⟨1, ![100]⟩
abbrev S100x1 : Shape := ⟨2, ![100, 1]⟩
abbrev S256x1 : Shape := ⟨2, ![256, 1]⟩
abbrev S1 : Shape := ⟨1, ![1]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  bcast_S_S100 : S_.BroadcastsInDim S100 (![] : Fin 0 → Fin S100.rank)
  reducesTo_S100_S_d0 : S100.ReducesTo [0] S_
  h_S_ : 0 < S_.numel

variable [Facts]

def fn {F : FTy → Type} [FloatOps F] (main_arg0 : FVec F S100x1000x128 .f32) (main_arg1 : IVec S100 32) (main_arg2 : FVec F S100x1 .f32) (main_arg3 : FVec F S100x1 .f32) (main_arg4 : FVec F S256x1 .f32) (main_arg5 : FVec F S1 .f32) (main_arg6 : FVec F S128x128 .f32) (main_arg7 : FVec F S128 .f32) (main_arg8 : FVec F S128x128 .f32) (main_arg9 : FVec F S128 .f32) (main_arg10 : FVec F S1x128 .f32) (main_arg11 : FVec F S128 .f32) (main_arg12 : FVec F S1x128 .f32) (main_arg13 : FVec F S128 .f32) : IVec S_ 1 :=
  let main_c : IVec S_ 32 := constantI S_ 32 0#32
  let main_v0 : IVec S100 32 := broadcastInDim S100 ![] bcast_S_S100 main_c
  let main_v1 : IVec S100 1 := cmpi .sge main_arg1 main_v0
  let main_c_0 : IVec S_ 32 := constantI S_ 32 1000#32
  let main_v2 : IVec S100 32 := broadcastInDim S100 ![] bcast_S_S100 main_c_0
  let main_v3 : IVec S100 1 := cmpi .slt main_arg1 main_v2
  let main_v4 : IVec S100 1 := andi main_v1 main_v3
  let main_c_1 : IVec S_ 1 := constantI S_ 1 1#1
  let main_v5 : IVec S_ 1 := (fun x v => Host.reduce IntOp.andi x v reducesTo_S100_S_d0 h_S_) main_v4 main_c_1
  main_v5
-- ==== Kernel.lean ====
abbrev S100x1000x128 : Shape := ⟨3, ![100, 1000, 128]⟩
abbrev S100 : Shape := ⟨1, ![100]⟩
abbrev S100x1 : Shape := ⟨2, ![100, 1]⟩
abbrev S256x1 : Shape := ⟨2, ![256, 1]⟩
abbrev S1 : Shape := ⟨1, ![1]⟩
abbrev S128x128 : Shape := ⟨2, ![128, 128]⟩
abbrev S128 : Shape := ⟨1, ![128]⟩
abbrev S1x128 : Shape := ⟨2, ![1, 128]⟩
abbrev S1x100 : Shape := ⟨2, ![1, 100]⟩
abbrev S256 : Shape := ⟨1, ![256]⟩
abbrev S10x1000x128 : Shape := ⟨3, ![10, 1000, 128]⟩
abbrev S100x128 : Shape := ⟨2, ![100, 128]⟩
abbrev S10x128 : Shape := ⟨2, ![10, 128]⟩
abbrev S1x1x128 : Shape := ⟨3, ![1, 1, 128]⟩

abbrev nBuf : Space → Nat
  | .hbm => 18
  | .vmem => 17
  | .smem => 1
  | _ => 0

abbrev bufTy : (tb : Table) → Fin (tcTables nBuf tb) → BufTy
  | .hbm, ⟨0, _⟩ => ⟨S100x1000x128, .f32⟩
  | .hbm, ⟨1, _⟩ => ⟨S100x1, .f32⟩
  | .hbm, ⟨2, _⟩ => ⟨S100x1, .f32⟩
  | .hbm, ⟨3, _⟩ => ⟨S256x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S1x100, .f32⟩
  | .hbm, ⟨14, _⟩ => ⟨S1x100, .f32⟩
  | .hbm, ⟨15, _⟩ => ⟨S256, .f32⟩
  | .hbm, ⟨16, _⟩ => ⟨S1x100, .f32⟩
  | .hbm, ⟨17, _⟩ => ⟨S100x1, .f32⟩
  | .local _ .vmem, ⟨0, _⟩ => ⟨S10x1000x128, .f32⟩
  | .local _ .vmem, ⟨1, _⟩ => ⟨S10x1000x128, .f32⟩
  | .local _ .vmem, ⟨2, _⟩ => ⟨S1x100, .f32⟩
  | .local _ .vmem, ⟨3, _⟩ => ⟨S1x100, .f32⟩
  | .local _ .vmem, ⟨4, _⟩ => ⟨S256, .f32⟩
  | .local _ .vmem, ⟨5, _⟩ => ⟨S1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S1x128, .f32⟩
  | .local _ .vmem, ⟨11, _⟩ => ⟨S128, .f32⟩
  | .local _ .vmem, ⟨12, _⟩ => ⟨S1x128, .f32⟩
  | .local _ .vmem, ⟨13, _⟩ => ⟨S128, .f32⟩
  | .local _ .vmem, ⟨14, _⟩ => ⟨S1x100, .f32⟩
  | .local _ .vmem, ⟨15, _⟩ => ⟨S100x128, .f32⟩
  | .local _ .vmem, ⟨16, _⟩ => ⟨S100x128, .f32⟩
  | .local _ .smem, ⟨0, _⟩ => ⟨S100, .i32⟩
  | _, _ => ⟨S100x1000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![10], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_2 : BitVec 32 := 0#32
  let v4 : BitVec 1 := Scalar.cmpi .ne v3 c0_i32_2
  v4

def k0_off1 (v38 : BitVec 32) : Fin 3 → Nat :=
  let c0_17 : Index := 0#32
  let v39 : Index := Scalar.indexCast v38
  let c0_18 : Index := 0#32
  ![0, v39.toNat, 0]

def k0_chk1 (i : grid0.Coords) (v38 : BitVec 32) : Prop :=
  (∀ (k0_h1 : k0_cond1 i = 1#1), ∀ a, (k0_off1 v38) a + S1x1x128.size a ≤ S10x1000x128.size a)
theorem k0_off1_inb : ∀ (i : grid0.Coords) (v38 : BitVec 32) (k0_hw1 : k0_chk1 i v38), ∀ (k0_h1 : k0_cond1 i = 1#1), ∀ a, (k0_off1 v38) a + S1x1x128.size a ≤ S10x1000x128.size a := fun i v38 k0_hw1 k0_h1 => k0_hw1 k0_h1

def k0_off2 (v45 : BitVec 32) : Fin 3 → Nat :=
  let c1_21 : Index := 1#32
  let v46 : Index := Scalar.indexCast v45
  let c0_22 : Index := 0#32
  ![1, v46.toNat, 0]

def k0_chk2 (i : grid0.Coords) (v45 : BitVec 32) : Prop :=
  (∀ (k0_h1 : k0_cond1 i = 1#1), ∀ a, (k0_off2 v45) a + S1x1x128.size a ≤ S10x1000x128.size a)
theorem k0_off2_inb : ∀ (i : grid0.Coords) (v45 : BitVec 32) (k0_hw2 : k0_chk2 i v45), ∀ (k0_h1 : k0_cond1 i = 1#1), ∀ a, (k0_off2 v45) a + S1x1x128.size a ≤ S10x1000x128.size a := fun i v45 k0_hw2 k0_h1 => k0_hw2 k0_h1

def k0_off3 (v52 : BitVec 32) : Fin 3 → Nat :=
  let c2_25 : Index := 2#32
  let v53 : Index := Scalar.indexCast v52
  let c0_26 : Index := 0#32
  ![2, v53.toNat, 0]

def k0_chk3 (i : grid0.Coords) (v52 : BitVec 32) : Prop :=
  (∀ (k0_h1 : k0_cond1 i = 1#1), ∀ a, (k0_off3 v52) a + S1x1x128.size a ≤ S10x1000x128.size a)
theorem k0_off3_inb : ∀ (i : grid0.Coords) (v52 : BitVec 32) (k0_hw3 : k0_chk3 i v52), ∀ (k0_h1 : k0_cond1 i = 1#1), ∀ a, (k0_off3 v52) a + S1x1x128.size a ≤ S10x1000x128.size a := fun i v52 k0_hw3 k0_h1 => k0_hw3 k0_h1

def k0_off4 (v59 : BitVec 32) : Fin 3 → Nat :=
  let c3_29 : Index := 3#32
  let v60 : Index := Scalar.indexCast v59
  let c0_30 : Index := 0#32
  ![3, v60.toNat, 0]

def k0_chk4 (i : grid0.Coords) (v59 : BitVec 32) : Prop :=
  (∀ (k0_h1 : k0_cond1 i = 1#1), ∀ a, (k0_off4 v59) a + S1x1x128.size a ≤ S10x1000x128.size a)
theorem k0_off4_inb : ∀ (i : grid0.Coords) (v59 : BitVec 32) (k0_hw4 : k0_chk4 i v59), ∀ (k0_h1 : k0_cond1 i = 1#1), ∀ a, (k0_off4 v59) a + S1x1x128.size a ≤ S10x1000x128.size a := fun i v59 k0_hw4 k0_h1 => k0_hw4 k0_h1

def k0_off5 (v66 : BitVec 32) : Fin 3 → Nat :=
  let c4_33 : Index := 4#32
  let v67 : Index := Scalar.indexCast v66
  let c0_34 : Index := 0#32
  ![4, v67.toNat, 0]

def k0_chk5 (i : grid0.Coords) (v66 : BitVec 32) : Prop :=
  (∀ (k0_h1 : k0_cond1 i = 1#1), ∀ a, (k0_off5 v66) a + S1x1x128.size a ≤ S10x1000x128.size a)
theorem k0_off5_inb : ∀ (i : grid0.Coords) (v66 : BitVec 32) (k0_hw5 : k0_chk5 i v66), ∀ (k0_h1 : k0_cond1 i = 1#1), ∀ a, (k0_off5 v66) a + S1x1x128.size a ≤ S10x1000x128.size a := fun i v66 k0_hw5 k0_h1 => k0_hw5 k0_h1

def k0_off6 (v73 : BitVec 32) : Fin 3 → Nat :=
  let c5_37 : Index := 5#32
  let v74 : Index := Scalar.indexCast v73
  let c0_38 : Index := 0#32
  ![5, v74.toNat, 0]

def k0_chk6 (i : grid0.Coords) (v73 : BitVec 32) : Prop :=
  (∀ (k0_h1 : k0_cond1 i = 1#1), ∀ a, (k0_off6 v73) a + S1x1x128.size a ≤ S10x1000x128.size a)
theorem k0_off6_inb : ∀ (i : grid0.Coords) (v73 : BitVec 32) (k0_hw6 : k0_chk6 i v73), ∀ (k0_h1 : k0_cond1 i = 1#1), ∀ a, (k0_off6 v73) a + S1x1x128.size a ≤ S10x1000x128.size a := fun i v73 k0_hw6 k0_h1 => k0_hw6 k0_h1

def k0_off7 (v80 : BitVec 32) : Fin 3 → Nat :=
  let c6_41 : Index := 6#32
  let v81 : Index := Scalar.indexCast v80
  let c0_42 : Index := 0#32
  ![6, v81.toNat, 0]

def k0_chk7 (i : grid0.Coords) (v80 : BitVec 32) : Prop :=
  (∀ (k0_h1 : k0_cond1 i = 1#1), ∀ a, (k0_off7 v80) a + S1x1x128.size a ≤ S10x1000x128.size a)
theorem k0_off7_inb : ∀ (i : grid0.Coords) (v80 : BitVec 32) (k0_hw7 : k0_chk7 i v80), ∀ (k0_h1 : k0_cond1 i = 1#1), ∀ a, (k0_off7 v80) a + S1x1x128.size a ≤ S10x1000x128.size a := fun i v80 k0_hw7 k0_h1 => k0_hw7 k0_h1

def k0_off8 (v87 : BitVec 32) : Fin 3 → Nat :=
  let c7_45 : Index := 7#32
  let v88 : Index := Scalar.indexCast v87
  let c0_46 : Index := 0#32
  ![7, v88.toNat, 0]

def k0_chk8 (i : grid0.Coords) (v87 : BitVec 32) : Prop :=
  (∀ (k0_h1 : k0_cond1 i = 1#1), ∀ a, (k0_off8 v87) a + S1x1x128.size a ≤ S10x1000x128.size a)
theorem k0_off8_inb : ∀ (i : grid0.Coords) (v87 : BitVec 32) (k0_hw8 : k0_chk8 i v87), ∀ (k0_h1 : k0_cond1 i = 1#1), ∀ a, (k0_off8 v87) a + S1x1x128.size a ≤ S10x1000x128.size a := fun i v87 k0_hw8 k0_h1 => k0_hw8 k0_h1

def k0_off9 (v94 : BitVec 32) : Fin 3 → Nat :=
  let c8_49 : Index := 8#32
  let v95 : Index := Scalar.indexCast v94
  let c0_50 : Index := 0#32
  ![8, v95.toNat, 0]

def k0_chk9 (i : grid0.Coords) (v94 : BitVec 32) : Prop :=
  (∀ (k0_h1 : k0_cond1 i = 1#1), ∀ a, (k0_off9 v94) a + S1x1x128.size a ≤ S10x1000x128.size a)
theorem k0_off9_inb : ∀ (i : grid0.Coords) (v94 : BitVec 32) (k0_hw9 : k0_chk9 i v94), ∀ (k0_h1 : k0_cond1 i = 1#1), ∀ a, (k0_off9 v94) a + S1x1x128.size a ≤ S10x1000x128.size a := fun i v94 k0_hw9 k0_h1 => k0_hw9 k0_h1

def k0_off10 (v101 : BitVec 32) : Fin 3 → Nat :=
  let c9_53 : Index := 9#32
  let v102 : Index := Scalar.indexCast v101
  let c0_54 : Index := 0#32
  ![9, v102.toNat, 0]

def k0_chk10 (i : grid0.Coords) (v101 : BitVec 32) : Prop :=
  (∀ (k0_h1 : k0_cond1 i = 1#1), ∀ a, (k0_off10 v101) a + S1x1x128.size a ≤ S10x1000x128.size a)
theorem k0_off10_inb : ∀ (i : grid0.Coords) (v101 : BitVec 32) (k0_hw10 : k0_chk10 i v101), ∀ (k0_h1 : k0_cond1 i = 1#1), ∀ a, (k0_off10 v101) a + S1x1x128.size a ≤ S10x1000x128.size a := fun i v101 k0_hw10 k0_h1 => k0_hw10 k0_h1

def k0_cond2 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_3 : BitVec 32 := 0#32
  let v7 : BitVec 1 := Scalar.cmpi .ne v6 c0_i32_3
  v7

def k0_off11 (v38 : BitVec 32) : Fin 3 → Nat :=
  let c0_16 : Index := 0#32
  let v39 : Index := Scalar.indexCast v38
  let c0_17 : Index := 0#32
  ![0, v39.toNat, 0]

def k0_chk11 (i : grid0.Coords) (v38 : BitVec 32) : Prop :=
  (∀ (k0_h2 : k0_cond2 i = 1#1), ∀ a, (k0_off11 v38) a + S1x1x128.size a ≤ S10x1000x128.size a)
theorem k0_off11_inb : ∀ (i : grid0.Coords) (v38 : BitVec 32) (k0_hw11 : k0_chk11 i v38), ∀ (k0_h2 : k0_cond2 i = 1#1), ∀ a, (k0_off11 v38) a + S1x1x128.size a ≤ S10x1000x128.size a := fun i v38 k0_hw11 k0_h2 => k0_hw11 k0_h2

def k0_off12 (v45 : BitVec 32) : Fin 3 → Nat :=
  let c1 : Index := 1#32
  let v46 : Index := Scalar.indexCast v45
  let c0_20 : Index := 0#32
  ![1, v46.toNat, 0]

def k0_chk12 (i : grid0.Coords) (v45 : BitVec 32) : Prop :=
  (∀ (k0_h2 : k0_cond2 i = 1#1), ∀ a, (k0_off12 v45) a + S1x1x128.size a ≤ S10x1000x128.size a)
theorem k0_off12_inb : ∀ (i : grid0.Coords) (v45 : BitVec 32) (k0_hw12 : k0_chk12 i v45), ∀ (k0_h2 : k0_cond2 i = 1#1), ∀ a, (k0_off12 v45) a + S1x1x128.size a ≤ S10x1000x128.size a := fun i v45 k0_hw12 k0_h2 => k0_hw12 k0_h2

def k0_off13 (v52 : BitVec 32) : Fin 3 → Nat :=
  let c2 : Index := 2#32
  let v53 : Index := Scalar.indexCast v52
  let c0_23 : Index := 0#32
  ![2, v53.toNat, 0]

def k0_chk13 (i : grid0.Coords) (v52 : BitVec 32) : Prop :=
  (∀ (k0_h2 : k0_cond2 i = 1#1), ∀ a, (k0_off13 v52) a + S1x1x128.size a ≤ S10x1000x128.size a)
theorem k0_off13_inb : ∀ (i : grid0.Coords) (v52 : BitVec 32) (k0_hw13 : k0_chk13 i v52), ∀ (k0_h2 : k0_cond2 i = 1#1), ∀ a, (k0_off13 v52) a + S1x1x128.size a ≤ S10x1000x128.size a := fun i v52 k0_hw13 k0_h2 => k0_hw13 k0_h2

def k0_off14 (v59 : BitVec 32) : Fin 3 → Nat :=
  let c3 : Index := 3#32
  let v60 : Index := Scalar.indexCast v59
  let c0_26 : Index := 0#32
  ![3, v60.toNat, 0]

def k0_chk14 (i : grid0.Coords) (v59 : BitVec 32) : Prop :=
  (∀ (k0_h2 : k0_cond2 i = 1#1), ∀ a, (k0_off14 v59) a + S1x1x128.size a ≤ S10x1000x128.size a)
theorem k0_off14_inb : ∀ (i : grid0.Coords) (v59 : BitVec 32) (k0_hw14 : k0_chk14 i v59), ∀ (k0_h2 : k0_cond2 i = 1#1), ∀ a, (k0_off14 v59) a + S1x1x128.size a ≤ S10x1000x128.size a := fun i v59 k0_hw14 k0_h2 => k0_hw14 k0_h2

def k0_off15 (v66 : BitVec 32) : Fin 3 → Nat :=
  let c4 : Index := 4#32
  let v67 : Index := Scalar.indexCast v66
  let c0_29 : Index := 0#32
  ![4, v67.toNat, 0]

def k0_chk15 (i : grid0.Coords) (v66 : BitVec 32) : Prop :=
  (∀ (k0_h2 : k0_cond2 i = 1#1), ∀ a, (k0_off15 v66) a + S1x1x128.size a ≤ S10x1000x128.size a)
theorem k0_off15_inb : ∀ (i : grid0.Coords) (v66 : BitVec 32) (k0_hw15 : k0_chk15 i v66), ∀ (k0_h2 : k0_cond2 i = 1#1), ∀ a, (k0_off15 v66) a + S1x1x128.size a ≤ S10x1000x128.size a := fun i v66 k0_hw15 k0_h2 => k0_hw15 k0_h2

def k0_off16 (v73 : BitVec 32) : Fin 3 → Nat :=
  let c5 : Index := 5#32
  let v74 : Index := Scalar.indexCast v73
  let c0_32 : Index := 0#32
  ![5, v74.toNat, 0]

def k0_chk16 (i : grid0.Coords) (v73 : BitVec 32) : Prop :=
  (∀ (k0_h2 : k0_cond2 i = 1#1), ∀ a, (k0_off16 v73) a + S1x1x128.size a ≤ S10x1000x128.size a)
theorem k0_off16_inb : ∀ (i : grid0.Coords) (v73 : BitVec 32) (k0_hw16 : k0_chk16 i v73), ∀ (k0_h2 : k0_cond2 i = 1#1), ∀ a, (k0_off16 v73) a + S1x1x128.size a ≤ S10x1000x128.size a := fun i v73 k0_hw16 k0_h2 => k0_hw16 k0_h2

def k0_off17 (v80 : BitVec 32) : Fin 3 → Nat :=
  let c6 : Index := 6#32
  let v81 : Index := Scalar.indexCast v80
  let c0_35 : Index := 0#32
  ![6, v81.toNat, 0]

def k0_chk17 (i : grid0.Coords) (v80 : BitVec 32) : Prop :=
  (∀ (k0_h2 : k0_cond2 i = 1#1), ∀ a, (k0_off17 v80) a + S1x1x128.size a ≤ S10x1000x128.size a)
theorem k0_off17_inb : ∀ (i : grid0.Coords) (v80 : BitVec 32) (k0_hw17 : k0_chk17 i v80), ∀ (k0_h2 : k0_cond2 i = 1#1), ∀ a, (k0_off17 v80) a + S1x1x128.size a ≤ S10x1000x128.size a := fun i v80 k0_hw17 k0_h2 => k0_hw17 k0_h2

def k0_off18 (v87 : BitVec 32) : Fin 3 → Nat :=
  let c7 : Index := 7#32
  let v88 : Index := Scalar.indexCast v87
  let c0_38 : Index := 0#32
  ![7, v88.toNat, 0]

def k0_chk18 (i : grid0.Coords) (v87 : BitVec 32) : Prop :=
  (∀ (k0_h2 : k0_cond2 i = 1#1), ∀ a, (k0_off18 v87) a + S1x1x128.size a ≤ S10x1000x128.size a)
theorem k0_off18_inb : ∀ (i : grid0.Coords) (v87 : BitVec 32) (k0_hw18 : k0_chk18 i v87), ∀ (k0_h2 : k0_cond2 i = 1#1), ∀ a, (k0_off18 v87) a + S1x1x128.size a ≤ S10x1000x128.size a := fun i v87 k0_hw18 k0_h2 => k0_hw18 k0_h2

def k0_off19 (v94 : BitVec 32) : Fin 3 → Nat :=
  let c8 : Index := 8#32
  let v95 : Index := Scalar.indexCast v94
  let c0_41 : Index := 0#32
  ![8, v95.toNat, 0]

def k0_chk19 (i : grid0.Coords) (v94 : BitVec 32) : Prop :=
  (∀ (k0_h2 : k0_cond2 i = 1#1), ∀ a, (k0_off19 v94) a + S1x1x128.size a ≤ S10x1000x128.size a)
theorem k0_off19_inb : ∀ (i : grid0.Coords) (v94 : BitVec 32) (k0_hw19 : k0_chk19 i v94), ∀ (k0_h2 : k0_cond2 i = 1#1), ∀ a, (k0_off19 v94) a + S1x1x128.size a ≤ S10x1000x128.size a := fun i v94 k0_hw19 k0_h2 => k0_hw19 k0_h2

def k0_off20 (v101 : BitVec 32) : Fin 3 → Nat :=
  let c9 : Index := 9#32
  let v102 : Index := Scalar.indexCast v101
  let c0_44 : Index := 0#32
  ![9, v102.toNat, 0]

def k0_chk20 (i : grid0.Coords) (v101 : BitVec 32) : Prop :=
  (∀ (k0_h2 : k0_cond2 i = 1#1), ∀ a, (k0_off20 v101) a + S1x1x128.size a ≤ S10x1000x128.size a)
theorem k0_off20_inb : ∀ (i : grid0.Coords) (v101 : BitVec 32) (k0_hw20 : k0_chk20 i v101), ∀ (k0_h2 : k0_cond2 i = 1#1), ∀ a, (k0_off20 v101) a + S1x1x128.size a ≤ S10x1000x128.size a := fun i v101 k0_hw20 k0_h2 => k0_hw20 k0_h2

def k0_cond3 (i : grid0.Coords) : BitVec 1 :=
  let arg0 : BitVec 32 := BitVec.ofNat 32 (i 0).val
  let c2_i32 : BitVec 32 := 2#32
  let v8 : BitVec 1 := Scalar.cmpi .eq arg0 c2_i32
  let v9 : BitVec 32 := Scalar.extui v8
  let c0_i32_4 : BitVec 32 := 0#32
  let v10 : BitVec 1 := Scalar.cmpi .ne v9 c0_i32_4
  v10

def k0_off21 (v38 : BitVec 32) : Fin 3 → Nat :=
  let c0_16 : Index := 0#32
  let v39 : Index := Scalar.indexCast v38
  let c0_17 : Index := 0#32
  ![0, v39.toNat, 0]

def k0_chk21 (i : grid0.Coords) (v38 : BitVec 32) : Prop :=
  (∀ (k0_h3 : k0_cond3 i = 1#1), ∀ a, (k0_off21 v38) a + S1x1x128.size a ≤ S10x1000x128.size a)
theorem k0_off21_inb : ∀ (i : grid0.Coords) (v38 : BitVec 32) (k0_hw21 : k0_chk21 i v38), ∀ (k0_h3 : k0_cond3 i = 1#1), ∀ a, (k0_off21 v38) a + S1x1x128.size a ≤ S10x1000x128.size a := fun i v38 k0_hw21 k0_h3 => k0_hw21 k0_h3

def k0_off22 (v45 : BitVec 32) : Fin 3 → Nat :=
  let c1 : Index := 1#32
  let v46 : Index := Scalar.indexCast v45
  let c0_20 : Index := 0#32
  ![1, v46.toNat, 0]

def k0_chk22 (i : grid0.Coords) (v45 : BitVec 32) : Prop :=
  (∀ (k0_h3 : k0_cond3 i = 1#1), ∀ a, (k0_off22 v45) a + S1x1x128.size a ≤ S10x1000x128.size a)
theorem k0_off22_inb : ∀ (i : grid0.Coords) (v45 : BitVec 32) (k0_hw22 : k0_chk22 i v45), ∀ (k0_h3 : k0_cond3 i = 1#1), ∀ a, (k0_off22 v45) a + S1x1x128.size a ≤ S10x1000x128.size a := fun i v45 k0_hw22 k0_h3 => k0_hw22 k0_h3

def k0_off23 (v52 : BitVec 32) : Fin 3 → Nat :=
  let c2 : Index := 2#32
  let v53 : Index := Scalar.indexCast v52
  let c0_23 : Index := 0#32
  ![2, v53.toNat, 0]

def k0_chk23 (i : grid0.Coords) (v52 : BitVec 32) : Prop :=
  (∀ (k0_h3 : k0_cond3 i = 1#1), ∀ a, (k0_off23 v52) a + S1x1x128.size a ≤ S10x1000x128.size a)
theorem k0_off23_inb : ∀ (i : grid0.Coords) (v52 : BitVec 32) (k0_hw23 : k0_chk23 i v52), ∀ (k0_h3 : k0_cond3 i = 1#1), ∀ a, (k0_off23 v52) a + S1x1x128.size a ≤ S10x1000x128.size a := fun i v52 k0_hw23 k0_h3 => k0_hw23 k0_h3

def k0_off24 (v59 : BitVec 32) : Fin 3 → Nat :=
  let c3 : Index := 3#32
  let v60 : Index := Scalar.indexCast v59
  let c0_26 : Index := 0#32
  ![3, v60.toNat, 0]

def k0_chk24 (i : grid0.Coords) (v59 : BitVec 32) : Prop :=
  (∀ (k0_h3 : k0_cond3 i = 1#1), ∀ a, (k0_off24 v59) a + S1x1x128.size a ≤ S10x1000x128.size a)
theorem k0_off24_inb : ∀ (i : grid0.Coords) (v59 : BitVec 32) (k0_hw24 : k0_chk24 i v59), ∀ (k0_h3 : k0_cond3 i = 1#1), ∀ a, (k0_off24 v59) a + S1x1x128.size a ≤ S10x1000x128.size a := fun i v59 k0_hw24 k0_h3 => k0_hw24 k0_h3

def k0_off25 (v66 : BitVec 32) : Fin 3 → Nat :=
  let c4 : Index := 4#32
  let v67 : Index := Scalar.indexCast v66
  let c0_29 : Index := 0#32
  ![4, v67.toNat, 0]

def k0_chk25 (i : grid0.Coords) (v66 : BitVec 32) : Prop :=
  (∀ (k0_h3 : k0_cond3 i = 1#1), ∀ a, (k0_off25 v66) a + S1x1x128.size a ≤ S10x1000x128.size a)
theorem k0_off25_inb : ∀ (i : grid0.Coords) (v66 : BitVec 32) (k0_hw25 : k0_chk25 i v66), ∀ (k0_h3 : k0_cond3 i = 1#1), ∀ a, (k0_off25 v66) a + S1x1x128.size a ≤ S10x1000x128.size a := fun i v66 k0_hw25 k0_h3 => k0_hw25 k0_h3

def k0_off26 (v73 : BitVec 32) : Fin 3 → Nat :=
  let c5 : Index := 5#32
  let v74 : Index := Scalar.indexCast v73
  let c0_32 : Index := 0#32
  ![5, v74.toNat, 0]

def k0_chk26 (i : grid0.Coords) (v73 : BitVec 32) : Prop :=
  (∀ (k0_h3 : k0_cond3 i = 1#1), ∀ a, (k0_off26 v73) a + S1x1x128.size a ≤ S10x1000x128.size a)
theorem k0_off26_inb : ∀ (i : grid0.Coords) (v73 : BitVec 32) (k0_hw26 : k0_chk26 i v73), ∀ (k0_h3 : k0_cond3 i = 1#1), ∀ a, (k0_off26 v73) a + S1x1x128.size a ≤ S10x1000x128.size a := fun i v73 k0_hw26 k0_h3 => k0_hw26 k0_h3

def k0_off27 (v80 : BitVec 32) : Fin 3 → Nat :=
  let c6 : Index := 6#32
  let v81 : Index := Scalar.indexCast v80
  let c0_35 : Index := 0#32
  ![6, v81.toNat, 0]

def k0_chk27 (i : grid0.Coords) (v80 : BitVec 32) : Prop :=
  (∀ (k0_h3 : k0_cond3 i = 1#1), ∀ a, (k0_off27 v80) a + S1x1x128.size a ≤ S10x1000x128.size a)
theorem k0_off27_inb : ∀ (i : grid0.Coords) (v80 : BitVec 32) (k0_hw27 : k0_chk27 i v80), ∀ (k0_h3 : k0_cond3 i = 1#1), ∀ a, (k0_off27 v80) a + S1x1x128.size a ≤ S10x1000x128.size a := fun i v80 k0_hw27 k0_h3 => k0_hw27 k0_h3

def k0_off28 (v87 : BitVec 32) : Fin 3 → Nat :=
  let c7 : Index := 7#32
  let v88 : Index := Scalar.indexCast v87
  let c0_38 : Index := 0#32
  ![7, v88.toNat, 0]

def k0_chk28 (i : grid0.Coords) (v87 : BitVec 32) : Prop :=
  (∀ (k0_h3 : k0_cond3 i = 1#1), ∀ a, (k0_off28 v87) a + S1x1x128.size a ≤ S10x1000x128.size a)
theorem k0_off28_inb : ∀ (i : grid0.Coords) (v87 : BitVec 32) (k0_hw28 : k0_chk28 i v87), ∀ (k0_h3 : k0_cond3 i = 1#1), ∀ a, (k0_off28 v87) a + S1x1x128.size a ≤ S10x1000x128.size a := fun i v87 k0_hw28 k0_h3 => k0_hw28 k0_h3

def k0_off29 (v94 : BitVec 32) : Fin 3 → Nat :=
  let c8 : Index := 8#32
  let v95 : Index := Scalar.indexCast v94
  let c0_41 : Index := 0#32
  ![8, v95.toNat, 0]

def k0_chk29 (i : grid0.Coords) (v94 : BitVec 32) : Prop :=
  (∀ (k0_h3 : k0_cond3 i = 1#1), ∀ a, (k0_off29 v94) a + S1x1x128.size a ≤ S10x1000x128.size a)
theorem k0_off29_inb : ∀ (i : grid0.Coords) (v94 : BitVec 32) (k0_hw29 : k0_chk29 i v94), ∀ (k0_h3 : k0_cond3 i = 1#1), ∀ a, (k0_off29 v94) a + S1x1x128.size a ≤ S10x1000x128.size a := fun i v94 k0_hw29 k0_h3 => k0_hw29 k0_h3

def k0_off30 (v101 : BitVec 32) : Fin 3 → Nat :=
  let c9 : Index := 9#32
  let v102 : Index := Scalar.indexCast v101
  let c0_44 : Index := 0#32
  ![9, v102.toNat, 0]

def k0_chk30 (i : grid0.Coords) (v101 : BitVec 32) : Prop :=
  (∀ (k0_h3 : k0_cond3 i = 1#1), ∀ a, (k0_off30 v101) a + S1x1x128.size a ≤ S10x1000x128.size a)
theorem k0_off30_inb : ∀ (i : grid0.Coords) (v101 : BitVec 32) (k0_hw30 : k0_chk30 i v101), ∀ (k0_h3 : k0_cond3 i = 1#1), ∀ a, (k0_off30 v101) a + S1x1x128.size a ≤ S10x1000x128.size a := fun i v101 k0_hw30 k0_h3 => k0_hw30 k0_h3

def k0_cond4 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_5 : BitVec 32 := 0#32
  let v13 : BitVec 1 := Scalar.cmpi .ne v12 c0_i32_5
  v13

def k0_off31 (v38 : BitVec 32) : Fin 3 → Nat :=
  let c0_16 : Index := 0#32
  let v39 : Index := Scalar.indexCast v38
  let c0_17 : Index := 0#32
  ![0, v39.toNat, 0]

def k0_chk31 (i : grid0.Coords) (v38 : BitVec 32) : Prop :=
  (∀ (k0_h4 : k0_cond4 i = 1#1), ∀ a, (k0_off31 v38) a + S1x1x128.size a ≤ S10x1000x128.size a)
theorem k0_off31_inb : ∀ (i : grid0.Coords) (v38 : BitVec 32) (k0_hw31 : k0_chk31 i v38), ∀ (k0_h4 : k0_cond4 i = 1#1), ∀ a, (k0_off31 v38) a + S1x1x128.size a ≤ S10x1000x128.size a := fun i v38 k0_hw31 k0_h4 => k0_hw31 k0_h4

def k0_off32 (v45 : BitVec 32) : Fin 3 → Nat :=
  let c1 : Index := 1#32
  let v46 : Index := Scalar.indexCast v45
  let c0_20 : Index := 0#32
  ![1, v46.toNat, 0]

def k0_chk32 (i : grid0.Coords) (v45 : BitVec 32) : Prop :=
  (∀ (k0_h4 : k0_cond4 i = 1#1), ∀ a, (k0_off32 v45) a + S1x1x128.size a ≤ S10x1000x128.size a)
theorem k0_off32_inb : ∀ (i : grid0.Coords) (v45 : BitVec 32) (k0_hw32 : k0_chk32 i v45), ∀ (k0_h4 : k0_cond4 i = 1#1), ∀ a, (k0_off32 v45) a + S1x1x128.size a ≤ S10x1000x128.size a := fun i v45 k0_hw32 k0_h4 => k0_hw32 k0_h4

def k0_off33 (v52 : BitVec 32) : Fin 3 → Nat :=
  let c2 : Index := 2#32
  let v53 : Index := Scalar.indexCast v52
  let c0_23 : Index := 0#32
  ![2, v53.toNat, 0]

def k0_chk33 (i : grid0.Coords) (v52 : BitVec 32) : Prop :=
  (∀ (k0_h4 : k0_cond4 i = 1#1), ∀ a, (k0_off33 v52) a + S1x1x128.size a ≤ S10x1000x128.size a)
theorem k0_off33_inb : ∀ (i : grid0.Coords) (v52 : BitVec 32) (k0_hw33 : k0_chk33 i v52), ∀ (k0_h4 : k0_cond4 i = 1#1), ∀ a, (k0_off33 v52) a + S1x1x128.size a ≤ S10x1000x128.size a := fun i v52 k0_hw33 k0_h4 => k0_hw33 k0_h4

def k0_off34 (v59 : BitVec 32) : Fin 3 → Nat :=
  let c3 : Index := 3#32
  let v60 : Index := Scalar.indexCast v59
  let c0_26 : Index := 0#32
  ![3, v60.toNat, 0]

def k0_chk34 (i : grid0.Coords) (v59 : BitVec 32) : Prop :=
  (∀ (k0_h4 : k0_cond4 i = 1#1), ∀ a, (k0_off34 v59) a + S1x1x128.size a ≤ S10x1000x128.size a)
theorem k0_off34_inb : ∀ (i : grid0.Coords) (v59 : BitVec 32) (k0_hw34 : k0_chk34 i v59), ∀ (k0_h4 : k0_cond4 i = 1#1), ∀ a, (k0_off34 v59) a + S1x1x128.size a ≤ S10x1000x128.size a := fun i v59 k0_hw34 k0_h4 => k0_hw34 k0_h4

def k0_off35 (v66 : BitVec 32) : Fin 3 → Nat :=
  let c4 : Index := 4#32
  let v67 : Index := Scalar.indexCast v66
  let c0_29 : Index := 0#32
  ![4, v67.toNat, 0]

def k0_chk35 (i : grid0.Coords) (v66 : BitVec 32) : Prop :=
  (∀ (k0_h4 : k0_cond4 i = 1#1), ∀ a, (k0_off35 v66) a + S1x1x128.size a ≤ S10x1000x128.size a)
theorem k0_off35_inb : ∀ (i : grid0.Coords) (v66 : BitVec 32) (k0_hw35 : k0_chk35 i v66), ∀ (k0_h4 : k0_cond4 i = 1#1), ∀ a, (k0_off35 v66) a + S1x1x128.size a ≤ S10x1000x128.size a := fun i v66 k0_hw35 k0_h4 => k0_hw35 k0_h4

def k0_off36 (v73 : BitVec 32) : Fin 3 → Nat :=
  let c5 : Index := 5#32
  let v74 : Index := Scalar.indexCast v73
  let c0_32 : Index := 0#32
  ![5, v74.toNat, 0]

def k0_chk36 (i : grid0.Coords) (v73 : BitVec 32) : Prop :=
  (∀ (k0_h4 : k0_cond4 i = 1#1), ∀ a, (k0_off36 v73) a + S1x1x128.size a ≤ S10x1000x128.size a)
theorem k0_off36_inb : ∀ (i : grid0.Coords) (v73 : BitVec 32) (k0_hw36 : k0_chk36 i v73), ∀ (k0_h4 : k0_cond4 i = 1#1), ∀ a, (k0_off36 v73) a + S1x1x128.size a ≤ S10x1000x128.size a := fun i v73 k0_hw36 k0_h4 => k0_hw36 k0_h4

def k0_off37 (v80 : BitVec 32) : Fin 3 → Nat :=
  let c6 : Index := 6#32
  let v81 : Index := Scalar.indexCast v80
  let c0_35 : Index := 0#32
  ![6, v81.toNat, 0]

def k0_chk37 (i : grid0.Coords) (v80 : BitVec 32) : Prop :=
  (∀ (k0_h4 : k0_cond4 i = 1#1), ∀ a, (k0_off37 v80) a + S1x1x128.size a ≤ S10x1000x128.size a)
theorem k0_off37_inb : ∀ (i : grid0.Coords) (v80 : BitVec 32) (k0_hw37 : k0_chk37 i v80), ∀ (k0_h4 : k0_cond4 i = 1#1), ∀ a, (k0_off37 v80) a + S1x1x128.size a ≤ S10x1000x128.size a := fun i v80 k0_hw37 k0_h4 => k0_hw37 k0_h4

def k0_off38 (v87 : BitVec 32) : Fin 3 → Nat :=
  let c7 : Index := 7#32
  let v88 : Index := Scalar.indexCast v87
  let c0_38 : Index := 0#32
  ![7, v88.toNat, 0]

def k0_chk38 (i : grid0.Coords) (v87 : BitVec 32) : Prop :=
  (∀ (k0_h4 : k0_cond4 i = 1#1), ∀ a, (k0_off38 v87) a + S1x1x128.size a ≤ S10x1000x128.size a)
theorem k0_off38_inb : ∀ (i : grid0.Coords) (v87 : BitVec 32) (k0_hw38 : k0_chk38 i v87), ∀ (k0_h4 : k0_cond4 i = 1#1), ∀ a, (k0_off38 v87) a + S1x1x128.size a ≤ S10x1000x128.size a := fun i v87 k0_hw38 k0_h4 => k0_hw38 k0_h4

def k0_off39 (v94 : BitVec 32) : Fin 3 → Nat :=
  let c8 : Index := 8#32
  let v95 : Index := Scalar.indexCast v94
  let c0_41 : Index := 0#32
  ![8, v95.toNat, 0]

def k0_chk39 (i : grid0.Coords) (v94 : BitVec 32) : Prop :=
  (∀ (k0_h4 : k0_cond4 i = 1#1), ∀ a, (k0_off39 v94) a + S1x1x128.size a ≤ S10x1000x128.size a)
theorem k0_off39_inb : ∀ (i : grid0.Coords) (v94 : BitVec 32) (k0_hw39 : k0_chk39 i v94), ∀ (k0_h4 : k0_cond4 i = 1#1), ∀ a, (k0_off39 v94) a + S1x1x128.size a ≤ S10x1000x128.size a := fun i v94 k0_hw39 k0_h4 => k0_hw39 k0_h4

def k0_off40 (v101 : BitVec 32) : Fin 3 → Nat :=
  let c9 : Index := 9#32
  let v102 : Index := Scalar.indexCast v101
  let c0_44 : Index := 0#32
  ![9, v102.toNat, 0]

def k0_chk40 (i : grid0.Coords) (v101 : BitVec 32) : Prop :=
  (∀ (k0_h4 : k0_cond4 i = 1#1), ∀ a, (k0_off40 v101) a + S1x1x128.size a ≤ S10x1000x128.size a)
theorem k0_off40_inb : ∀ (i : grid0.Coords) (v101 : BitVec 32) (k0_hw40 : k0_chk40 i v101), ∀ (k0_h4 : k0_cond4 i = 1#1), ∀ a, (k0_off40 v101) a + S1x1x128.size a ≤ S10x1000x128.size a := fun i v101 k0_hw40 k0_h4 => k0_hw40 k0_h4

def k0_cond5 (i : grid0.Coords) : BitVec 1 :=
  let arg0 : BitVec 32 := BitVec.ofNat 32 (i 0).val
  let c4_i32 : BitVec 32 := 4#32
  let v14 : BitVec 1 := Scalar.cmpi .eq arg0 c4_i32
  let v15 : BitVec 32 := Scalar.extui v14
  let c0_i32_6 : BitVec 32 := 0#32
  let v16 : BitVec 1 := Scalar.cmpi .ne v15 c0_i32_6
  v16

def k0_off41 (v38 : BitVec 32) : Fin 3 → Nat :=
  let c0_16 : Index := 0#32
  let v39 : Index := Scalar.indexCast v38
  let c0_17 : Index := 0#32
  ![0, v39.toNat, 0]

def k0_chk41 (i : grid0.Coords) (v38 : BitVec 32) : Prop :=
  (∀ (k0_h5 : k0_cond5 i = 1#1), ∀ a, (k0_off41 v38) a + S1x1x128.size a ≤ S10x1000x128.size a)
theorem k0_off41_inb : ∀ (i : grid0.Coords) (v38 : BitVec 32) (k0_hw41 : k0_chk41 i v38), ∀ (k0_h5 : k0_cond5 i = 1#1), ∀ a, (k0_off41 v38) a + S1x1x128.size a ≤ S10x1000x128.size a := fun i v38 k0_hw41 k0_h5 => k0_hw41 k0_h5

def k0_off42 (v45 : BitVec 32) : Fin 3 → Nat :=
  let c1 : Index := 1#32
  let v46 : Index := Scalar.indexCast v45
  let c0_20 : Index := 0#32
  ![1, v46.toNat, 0]

def k0_chk42 (i : grid0.Coords) (v45 : BitVec 32) : Prop :=
  (∀ (k0_h5 : k0_cond5 i = 1#1), ∀ a, (k0_off42 v45) a + S1x1x128.size a ≤ S10x1000x128.size a)
theorem k0_off42_inb : ∀ (i : grid0.Coords) (v45 : BitVec 32) (k0_hw42 : k0_chk42 i v45), ∀ (k0_h5 : k0_cond5 i = 1#1), ∀ a, (k0_off42 v45) a + S1x1x128.size a ≤ S10x1000x128.size a := fun i v45 k0_hw42 k0_h5 => k0_hw42 k0_h5

def k0_off43 (v52 : BitVec 32) : Fin 3 → Nat :=
  let c2 : Index := 2#32
  let v53 : Index := Scalar.indexCast v52
  let c0_23 : Index := 0#32
  ![2, v53.toNat, 0]

def k0_chk43 (i : grid0.Coords) (v52 : BitVec 32) : Prop :=
  (∀ (k0_h5 : k0_cond5 i = 1#1), ∀ a, (k0_off43 v52) a + S1x1x128.size a ≤ S10x1000x128.size a)
theorem k0_off43_inb : ∀ (i : grid0.Coords) (v52 : BitVec 32) (k0_hw43 : k0_chk43 i v52), ∀ (k0_h5 : k0_cond5 i = 1#1), ∀ a, (k0_off43 v52) a + S1x1x128.size a ≤ S10x1000x128.size a := fun i v52 k0_hw43 k0_h5 => k0_hw43 k0_h5

def k0_off44 (v59 : BitVec 32) : Fin 3 → Nat :=
  let c3 : Index := 3#32
  let v60 : Index := Scalar.indexCast v59
  let c0_26 : Index := 0#32
  ![3, v60.toNat, 0]

def k0_chk44 (i : grid0.Coords) (v59 : BitVec 32) : Prop :=
  (∀ (k0_h5 : k0_cond5 i = 1#1), ∀ a, (k0_off44 v59) a + S1x1x128.size a ≤ S10x1000x128.size a)
theorem k0_off44_inb : ∀ (i : grid0.Coords) (v59 : BitVec 32) (k0_hw44 : k0_chk44 i v59), ∀ (k0_h5 : k0_cond5 i = 1#1), ∀ a, (k0_off44 v59) a + S1x1x128.size a ≤ S10x1000x128.size a := fun i v59 k0_hw44 k0_h5 => k0_hw44 k0_h5

def k0_off45 (v66 : BitVec 32) : Fin 3 → Nat :=
  let c4 : Index := 4#32
  let v67 : Index := Scalar.indexCast v66
  let c0_29 : Index := 0#32
  ![4, v67.toNat, 0]

def k0_chk45 (i : grid0.Coords) (v66 : BitVec 32) : Prop :=
  (∀ (k0_h5 : k0_cond5 i = 1#1), ∀ a, (k0_off45 v66) a + S1x1x128.size a ≤ S10x1000x128.size a)
theorem k0_off45_inb : ∀ (i : grid0.Coords) (v66 : BitVec 32) (k0_hw45 : k0_chk45 i v66), ∀ (k0_h5 : k0_cond5 i = 1#1), ∀ a, (k0_off45 v66) a + S1x1x128.size a ≤ S10x1000x128.size a := fun i v66 k0_hw45 k0_h5 => k0_hw45 k0_h5

def k0_off46 (v73 : BitVec 32) : Fin 3 → Nat :=
  let c5 : Index := 5#32
  let v74 : Index := Scalar.indexCast v73
  let c0_32 : Index := 0#32
  ![5, v74.toNat, 0]

def k0_chk46 (i : grid0.Coords) (v73 : BitVec 32) : Prop :=
  (∀ (k0_h5 : k0_cond5 i = 1#1), ∀ a, (k0_off46 v73) a + S1x1x128.size a ≤ S10x1000x128.size a)
theorem k0_off46_inb : ∀ (i : grid0.Coords) (v73 : BitVec 32) (k0_hw46 : k0_chk46 i v73), ∀ (k0_h5 : k0_cond5 i = 1#1), ∀ a, (k0_off46 v73) a + S1x1x128.size a ≤ S10x1000x128.size a := fun i v73 k0_hw46 k0_h5 => k0_hw46 k0_h5

def k0_off47 (v80 : BitVec 32) : Fin 3 → Nat :=
  let c6 : Index := 6#32
  let v81 : Index := Scalar.indexCast v80
  let c0_35 : Index := 0#32
  ![6, v81.toNat, 0]

def k0_chk47 (i : grid0.Coords) (v80 : BitVec 32) : Prop :=
  (∀ (k0_h5 : k0_cond5 i = 1#1), ∀ a, (k0_off47 v80) a + S1x1x128.size a ≤ S10x1000x128.size a)
theorem k0_off47_inb : ∀ (i : grid0.Coords) (v80 : BitVec 32) (k0_hw47 : k0_chk47 i v80), ∀ (k0_h5 : k0_cond5 i = 1#1), ∀ a, (k0_off47 v80) a + S1x1x128.size a ≤ S10x1000x128.size a := fun i v80 k0_hw47 k0_h5 => k0_hw47 k0_h5

def k0_off48 (v87 : BitVec 32) : Fin 3 → Nat :=
  let c7 : Index := 7#32
  let v88 : Index := Scalar.indexCast v87
  let c0_38 : Index := 0#32
  ![7, v88.toNat, 0]

def k0_chk48 (i : grid0.Coords) (v87 : BitVec 32) : Prop :=
  (∀ (k0_h5 : k0_cond5 i = 1#1), ∀ a, (k0_off48 v87) a + S1x1x128.size a ≤ S10x1000x128.size a)
theorem k0_off48_inb : ∀ (i : grid0.Coords) (v87 : BitVec 32) (k0_hw48 : k0_chk48 i v87), ∀ (k0_h5 : k0_cond5 i = 1#1), ∀ a, (k0_off48 v87) a + S1x1x128.size a ≤ S10x1000x128.size a := fun i v87 k0_hw48 k0_h5 => k0_hw48 k0_h5

def k0_off49 (v94 : BitVec 32) : Fin 3 → Nat :=
  let c8 : Index := 8#32
  let v95 : Index := Scalar.indexCast v94
  let c0_41 : Index := 0#32
  ![8, v95.toNat, 0]

def k0_chk49 (i : grid0.Coords) (v94 : BitVec 32) : Prop :=
  (∀ (k0_h5 : k0_cond5 i = 1#1), ∀ a, (k0_off49 v94) a + S1x1x128.size a ≤ S10x1000x128.size a)
theorem k0_off49_inb : ∀ (i : grid0.Coords) (v94 : BitVec 32) (k0_hw49 : k0_chk49 i v94), ∀ (k0_h5 : k0_cond5 i = 1#1), ∀ a, (k0_off49 v94) a + S1x1x128.size a ≤ S10x1000x128.size a := fun i v94 k0_hw49 k0_h5 => k0_hw49 k0_h5

def k0_off50 (v101 : BitVec 32) : Fin 3 → Nat :=
  let c9 : Index := 9#32
  let v102 : Index := Scalar.indexCast v101
  let c0_44 : Index := 0#32
  ![9, v102.toNat, 0]

def k0_chk50 (i : grid0.Coords) (v101 : BitVec 32) : Prop :=
  (∀ (k0_h5 : k0_cond5 i = 1#1), ∀ a, (k0_off50 v101) a + S1x1x128.size a ≤ S10x1000x128.size a)
theorem k0_off50_inb : ∀ (i : grid0.Coords) (v101 : BitVec 32) (k0_hw50 : k0_chk50 i v101), ∀ (k0_h5 : k0_cond5 i = 1#1), ∀ a, (k0_off50 v101) a + S1x1x128.size a ≤ S10x1000x128.size a := fun i v101 k0_hw50 k0_h5 => k0_hw50 k0_h5

def k0_cond6 (i : grid0.Coords) : BitVec 1 :=
  let arg0 : BitVec 32 := BitVec.ofNat 32 (i 0).val
  let c5_i32 : BitVec 32 := 5#32
  let v17 : BitVec 1 := Scalar.cmpi .eq arg0 c5_i32
  let v18 : BitVec 32 := Scalar.extui v17
  let c0_i32_7 : BitVec 32 := 0#32
  let v19 : BitVec 1 := Scalar.cmpi .ne v18 c0_i32_7
  v19

def k0_off51 (v38 : BitVec 32) : Fin 3 → Nat :=
  let c0_16 : Index := 0#32
  let v39 : Index := Scalar.indexCast v38
  let c0_17 : Index := 0#32
  ![0, v39.toNat, 0]

def k0_chk51 (i : grid0.Coords) (v38 : BitVec 32) : Prop :=
  (∀ (k0_h6 : k0_cond6 i = 1#1), ∀ a, (k0_off51 v38) a + S1x1x128.size a ≤ S10x1000x128.size a)
theorem k0_off51_inb : ∀ (i : grid0.Coords) (v38 : BitVec 32) (k0_hw51 : k0_chk51 i v38), ∀ (k0_h6 : k0_cond6 i = 1#1), ∀ a, (k0_off51 v38) a + S1x1x128.size a ≤ S10x1000x128.size a := fun i v38 k0_hw51 k0_h6 => k0_hw51 k0_h6

def k0_off52 (v45 : BitVec 32) : Fin 3 → Nat :=
  let c1 : Index := 1#32
  let v46 : Index := Scalar.indexCast v45
  let c0_20 : Index := 0#32
  ![1, v46.toNat, 0]

def k0_chk52 (i : grid0.Coords) (v45 : BitVec 32) : Prop :=
  (∀ (k0_h6 : k0_cond6 i = 1#1), ∀ a, (k0_off52 v45) a + S1x1x128.size a ≤ S10x1000x128.size a)
theorem k0_off52_inb : ∀ (i : grid0.Coords) (v45 : BitVec 32) (k0_hw52 : k0_chk52 i v45), ∀ (k0_h6 : k0_cond6 i = 1#1), ∀ a, (k0_off52 v45) a + S1x1x128.size a ≤ S10x1000x128.size a := fun i v45 k0_hw52 k0_h6 => k0_hw52 k0_h6

def k0_off53 (v52 : BitVec 32) : Fin 3 → Nat :=
  let c2 : Index := 2#32
  let v53 : Index := Scalar.indexCast v52
  let c0_23 : Index := 0#32
  ![2, v53.toNat, 0]

def k0_chk53 (i : grid0.Coords) (v52 : BitVec 32) : Prop :=
  (∀ (k0_h6 : k0_cond6 i = 1#1), ∀ a, (k0_off53 v52) a + S1x1x128.size a ≤ S10x1000x128.size a)
theorem k0_off53_inb : ∀ (i : grid0.Coords) (v52 : BitVec 32) (k0_hw53 : k0_chk53 i v52), ∀ (k0_h6 : k0_cond6 i = 1#1), ∀ a, (k0_off53 v52) a + S1x1x128.size a ≤ S10x1000x128.size a := fun i v52 k0_hw53 k0_h6 => k0_hw53 k0_h6

def k0_off54 (v59 : BitVec 32) : Fin 3 → Nat :=
  let c3 : Index := 3#32
  let v60 : Index := Scalar.indexCast v59
  let c0_26 : Index := 0#32
  ![3, v60.toNat, 0]

def k0_chk54 (i : grid0.Coords) (v59 : BitVec 32) : Prop :=
  (∀ (k0_h6 : k0_cond6 i = 1#1), ∀ a, (k0_off54 v59) a + S1x1x128.size a ≤ S10x1000x128.size a)
theorem k0_off54_inb : ∀ (i : grid0.Coords) (v59 : BitVec 32) (k0_hw54 : k0_chk54 i v59), ∀ (k0_h6 : k0_cond6 i = 1#1), ∀ a, (k0_off54 v59) a + S1x1x128.size a ≤ S10x1000x128.size a := fun i v59 k0_hw54 k0_h6 => k0_hw54 k0_h6

def k0_off55 (v66 : BitVec 32) : Fin 3 → Nat :=
  let c4 : Index := 4#32
  let v67 : Index := Scalar.indexCast v66
  let c0_29 : Index := 0#32
  ![4, v67.toNat, 0]

def k0_chk55 (i : grid0.Coords) (v66 : BitVec 32) : Prop :=
  (∀ (k0_h6 : k0_cond6 i = 1#1), ∀ a, (k0_off55 v66) a + S1x1x128.size a ≤ S10x1000x128.size a)
theorem k0_off55_inb : ∀ (i : grid0.Coords) (v66 : BitVec 32) (k0_hw55 : k0_chk55 i v66), ∀ (k0_h6 : k0_cond6 i = 1#1), ∀ a, (k0_off55 v66) a + S1x1x128.size a ≤ S10x1000x128.size a := fun i v66 k0_hw55 k0_h6 => k0_hw55 k0_h6

def k0_off56 (v73 : BitVec 32) : Fin 3 → Nat :=
  let c5 : Index := 5#32
  let v74 : Index := Scalar.indexCast v73
  let c0_32 : Index := 0#32
  ![5, v74.toNat, 0]

def k0_chk56 (i : grid0.Coords) (v73 : BitVec 32) : Prop :=
  (∀ (k0_h6 : k0_cond6 i = 1#1), ∀ a, (k0_off56 v73) a + S1x1x128.size a ≤ S10x1000x128.size a)
theorem k0_off56_inb : ∀ (i : grid0.Coords) (v73 : BitVec 32) (k0_hw56 : k0_chk56 i v73), ∀ (k0_h6 : k0_cond6 i = 1#1), ∀ a, (k0_off56 v73) a + S1x1x128.size a ≤ S10x1000x128.size a := fun i v73 k0_hw56 k0_h6 => k0_hw56 k0_h6

def k0_off57 (v80 : BitVec 32) : Fin 3 → Nat :=
  let c6 : Index := 6#32
  let v81 : Index := Scalar.indexCast v80
  let c0_35 : Index := 0#32
  ![6, v81.toNat, 0]

def k0_chk57 (i : grid0.Coords) (v80 : BitVec 32) : Prop :=
  (∀ (k0_h6 : k0_cond6 i = 1#1), ∀ a, (k0_off57 v80) a + S1x1x128.size a ≤ S10x1000x128.size a)
theorem k0_off57_inb : ∀ (i : grid0.Coords) (v80 : BitVec 32) (k0_hw57 : k0_chk57 i v80), ∀ (k0_h6 : k0_cond6 i = 1#1), ∀ a, (k0_off57 v80) a + S1x1x128.size a ≤ S10x1000x128.size a := fun i v80 k0_hw57 k0_h6 => k0_hw57 k0_h6

def k0_off58 (v87 : BitVec 32) : Fin 3 → Nat :=
  let c7 : Index := 7#32
  let v88 : Index := Scalar.indexCast v87
  let c0_38 : Index := 0#32
  ![7, v88.toNat, 0]

def k0_chk58 (i : grid0.Coords) (v87 : BitVec 32) : Prop :=
  (∀ (k0_h6 : k0_cond6 i = 1#1), ∀ a, (k0_off58 v87) a + S1x1x128.size a ≤ S10x1000x128.size a)
theorem k0_off58_inb : ∀ (i : grid0.Coords) (v87 : BitVec 32) (k0_hw58 : k0_chk58 i v87), ∀ (k0_h6 : k0_cond6 i = 1#1), ∀ a, (k0_off58 v87) a + S1x1x128.size a ≤ S10x1000x128.size a := fun i v87 k0_hw58 k0_h6 => k0_hw58 k0_h6

def k0_off59 (v94 : BitVec 32) : Fin 3 → Nat :=
  let c8 : Index := 8#32
  let v95 : Index := Scalar.indexCast v94
  let c0_41 : Index := 0#32
  ![8, v95.toNat, 0]

def k0_chk59 (i : grid0.Coords) (v94 : BitVec 32) : Prop :=
  (∀ (k0_h6 : k0_cond6 i = 1#1), ∀ a, (k0_off59 v94) a + S1x1x128.size a ≤ S10x1000x128.size a)
theorem k0_off59_inb : ∀ (i : grid0.Coords) (v94 : BitVec 32) (k0_hw59 : k0_chk59 i v94), ∀ (k0_h6 : k0_cond6 i = 1#1), ∀ a, (k0_off59 v94) a + S1x1x128.size a ≤ S10x1000x128.size a := fun i v94 k0_hw59 k0_h6 => k0_hw59 k0_h6

def k0_off60 (v101 : BitVec 32) : Fin 3 → Nat :=
  let c9 : Index := 9#32
  let v102 : Index := Scalar.indexCast v101
  let c0_44 : Index := 0#32
  ![9, v102.toNat, 0]

def k0_chk60 (i : grid0.Coords) (v101 : BitVec 32) : Prop :=
  (∀ (k0_h6 : k0_cond6 i = 1#1), ∀ a, (k0_off60 v101) a + S1x1x128.size a ≤ S10x1000x128.size a)
theorem k0_off60_inb : ∀ (i : grid0.Coords) (v101 : BitVec 32) (k0_hw60 : k0_chk60 i v101), ∀ (k0_h6 : k0_cond6 i = 1#1), ∀ a, (k0_off60 v101) a + S1x1x128.size a ≤ S10x1000x128.size a := fun i v101 k0_hw60 k0_h6 => k0_hw60 k0_h6

def k0_cond7 (i : grid0.Coords) : BitVec 1 :=
  let arg0 : BitVec 32 := BitVec.ofNat 32 (i 0).val
  let c6_i32 : BitVec 32 := 6#32
  let v20 : BitVec 1 := Scalar.cmpi .eq arg0 c6_i32
  let v21 : BitVec 32 := Scalar.extui v20
  let c0_i32_8 : BitVec 32 := 0#32
  let v22 : BitVec 1 := Scalar.cmpi .ne v21 c0_i32_8
  v22

def k0_off61 (v38 : BitVec 32) : Fin 3 → Nat :=
  let c0_16 : Index := 0#32
  let v39 : Index := Scalar.indexCast v38
  let c0_17 : Index := 0#32
  ![0, v39.toNat, 0]

def k0_chk61 (i : grid0.Coords) (v38 : BitVec 32) : Prop :=
  (∀ (k0_h7 : k0_cond7 i = 1#1), ∀ a, (k0_off61 v38) a + S1x1x128.size a ≤ S10x1000x128.size a)
theorem k0_off61_inb : ∀ (i : grid0.Coords) (v38 : BitVec 32) (k0_hw61 : k0_chk61 i v38), ∀ (k0_h7 : k0_cond7 i = 1#1), ∀ a, (k0_off61 v38) a + S1x1x128.size a ≤ S10x1000x128.size a := fun i v38 k0_hw61 k0_h7 => k0_hw61 k0_h7

def k0_off62 (v45 : BitVec 32) : Fin 3 → Nat :=
  let c1 : Index := 1#32
  let v46 : Index := Scalar.indexCast v45
  let c0_20 : Index := 0#32
  ![1, v46.toNat, 0]

def k0_chk62 (i : grid0.Coords) (v45 : BitVec 32) : Prop :=
  (∀ (k0_h7 : k0_cond7 i = 1#1), ∀ a, (k0_off62 v45) a + S1x1x128.size a ≤ S10x1000x128.size a)
theorem k0_off62_inb : ∀ (i : grid0.Coords) (v45 : BitVec 32) (k0_hw62 : k0_chk62 i v45), ∀ (k0_h7 : k0_cond7 i = 1#1), ∀ a, (k0_off62 v45) a + S1x1x128.size a ≤ S10x1000x128.size a := fun i v45 k0_hw62 k0_h7 => k0_hw62 k0_h7

def k0_off63 (v52 : BitVec 32) : Fin 3 → Nat :=
  let c2 : Index := 2#32
  let v53 : Index := Scalar.indexCast v52
  let c0_23 : Index := 0#32
  ![2, v53.toNat, 0]

def k0_chk63 (i : grid0.Coords) (v52 : BitVec 32) : Prop :=
  (∀ (k0_h7 : k0_cond7 i = 1#1), ∀ a, (k0_off63 v52) a + S1x1x128.size a ≤ S10x1000x128.size a)
theorem k0_off63_inb : ∀ (i : grid0.Coords) (v52 : BitVec 32) (k0_hw63 : k0_chk63 i v52), ∀ (k0_h7 : k0_cond7 i = 1#1), ∀ a, (k0_off63 v52) a + S1x1x128.size a ≤ S10x1000x128.size a := fun i v52 k0_hw63 k0_h7 => k0_hw63 k0_h7

def k0_off64 (v59 : BitVec 32) : Fin 3 → Nat :=
  let c3 : Index := 3#32
  let v60 : Index := Scalar.indexCast v59
  let c0_26 : Index := 0#32
  ![3, v60.toNat, 0]

def k0_chk64 (i : grid0.Coords) (v59 : BitVec 32) : Prop :=
  (∀ (k0_h7 : k0_cond7 i = 1#1), ∀ a, (k0_off64 v59) a + S1x1x128.size a ≤ S10x1000x128.size a)
theorem k0_off64_inb : ∀ (i : grid0.Coords) (v59 : BitVec 32) (k0_hw64 : k0_chk64 i v59), ∀ (k0_h7 : k0_cond7 i = 1#1), ∀ a, (k0_off64 v59) a + S1x1x128.size a ≤ S10x1000x128.size a := fun i v59 k0_hw64 k0_h7 => k0_hw64 k0_h7

def k0_off65 (v66 : BitVec 32) : Fin 3 → Nat :=
  let c4 : Index := 4#32
  let v67 : Index := Scalar.indexCast v66
  let c0_29 : Index := 0#32
  ![4, v67.toNat, 0]

def k0_chk65 (i : grid0.Coords) (v66 : BitVec 32) : Prop :=
  (∀ (k0_h7 : k0_cond7 i = 1#1), ∀ a, (k0_off65 v66) a + S1x1x128.size a ≤ S10x1000x128.size a)
theorem k0_off65_inb : ∀ (i : grid0.Coords) (v66 : BitVec 32) (k0_hw65 : k0_chk65 i v66), ∀ (k0_h7 : k0_cond7 i = 1#1), ∀ a, (k0_off65 v66) a + S1x1x128.size a ≤ S10x1000x128.size a := fun i v66 k0_hw65 k0_h7 => k0_hw65 k0_h7

def k0_off66 (v73 : BitVec 32) : Fin 3 → Nat :=
  let c5 : Index := 5#32
  let v74 : Index := Scalar.indexCast v73
  let c0_32 : Index := 0#32
  ![5, v74.toNat, 0]

def k0_chk66 (i : grid0.Coords) (v73 : BitVec 32) : Prop :=
  (∀ (k0_h7 : k0_cond7 i = 1#1), ∀ a, (k0_off66 v73) a + S1x1x128.size a ≤ S10x1000x128.size a)
theorem k0_off66_inb : ∀ (i : grid0.Coords) (v73 : BitVec 32) (k0_hw66 : k0_chk66 i v73), ∀ (k0_h7 : k0_cond7 i = 1#1), ∀ a, (k0_off66 v73) a + S1x1x128.size a ≤ S10x1000x128.size a := fun i v73 k0_hw66 k0_h7 => k0_hw66 k0_h7

def k0_off67 (v80 : BitVec 32) : Fin 3 → Nat :=
  let c6 : Index := 6#32
  let v81 : Index := Scalar.indexCast v80
  let c0_35 : Index := 0#32
  ![6, v81.toNat, 0]

def k0_chk67 (i : grid0.Coords) (v80 : BitVec 32) : Prop :=
  (∀ (k0_h7 : k0_cond7 i = 1#1), ∀ a, (k0_off67 v80) a + S1x1x128.size a ≤ S10x1000x128.size a)
theorem k0_off67_inb : ∀ (i : grid0.Coords) (v80 : BitVec 32) (k0_hw67 : k0_chk67 i v80), ∀ (k0_h7 : k0_cond7 i = 1#1), ∀ a, (k0_off67 v80) a + S1x1x128.size a ≤ S10x1000x128.size a := fun i v80 k0_hw67 k0_h7 => k0_hw67 k0_h7

def k0_off68 (v87 : BitVec 32) : Fin 3 → Nat :=
  let c7 : Index := 7#32
  let v88 : Index := Scalar.indexCast v87
  let c0_38 : Index := 0#32
  ![7, v88.toNat, 0]

def k0_chk68 (i : grid0.Coords) (v87 : BitVec 32) : Prop :=
  (∀ (k0_h7 : k0_cond7 i = 1#1), ∀ a, (k0_off68 v87) a + S1x1x128.size a ≤ S10x1000x128.size a)
theorem k0_off68_inb : ∀ (i : grid0.Coords) (v87 : BitVec 32) (k0_hw68 : k0_chk68 i v87), ∀ (k0_h7 : k0_cond7 i = 1#1), ∀ a, (k0_off68 v87) a + S1x1x128.size a ≤ S10x1000x128.size a := fun i v87 k0_hw68 k0_h7 => k0_hw68 k0_h7

def k0_off69 (v94 : BitVec 32) : Fin 3 → Nat :=
  let c8 : Index := 8#32
  let v95 : Index := Scalar.indexCast v94
  let c0_41 : Index := 0#32
  ![8, v95.toNat, 0]

def k0_chk69 (i : grid0.Coords) (v94 : BitVec 32) : Prop :=
  (∀ (k0_h7 : k0_cond7 i = 1#1), ∀ a, (k0_off69 v94) a + S1x1x128.size a ≤ S10x1000x128.size a)
theorem k0_off69_inb : ∀ (i : grid0.Coords) (v94 : BitVec 32) (k0_hw69 : k0_chk69 i v94), ∀ (k0_h7 : k0_cond7 i = 1#1), ∀ a, (k0_off69 v94) a + S1x1x128.size a ≤ S10x1000x128.size a := fun i v94 k0_hw69 k0_h7 => k0_hw69 k0_h7

def k0_off70 (v101 : BitVec 32) : Fin 3 → Nat :=
  let c9 : Index := 9#32
  let v102 : Index := Scalar.indexCast v101
  let c0_44 : Index := 0#32
  ![9, v102.toNat, 0]

def k0_chk70 (i : grid0.Coords) (v101 : BitVec 32) : Prop :=
  (∀ (k0_h7 : k0_cond7 i = 1#1), ∀ a, (k0_off70 v101) a + S1x1x128.size a ≤ S10x1000x128.size a)
theorem k0_off70_inb : ∀ (i : grid0.Coords) (v101 : BitVec 32) (k0_hw70 : k0_chk70 i v101), ∀ (k0_h7 : k0_cond7 i = 1#1), ∀ a, (k0_off70 v101) a + S1x1x128.size a ≤ S10x1000x128.size a := fun i v101 k0_hw70 k0_h7 => k0_hw70 k0_h7

def k0_cond8 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_9 : BitVec 32 := 0#32
  let v25 : BitVec 1 := Scalar.cmpi .ne v24 c0_i32_9
  v25

def k0_off71 (v38 : BitVec 32) : Fin 3 → Nat :=
  let c0_16 : Index := 0#32
  let v39 : Index := Scalar.indexCast v38
  let c0_17 : Index := 0#32
  ![0, v39.toNat, 0]

def k0_chk71 (i : grid0.Coords) (v38 : BitVec 32) : Prop :=
  (∀ (k0_h8 : k0_cond8 i = 1#1), ∀ a, (k0_off71 v38) a + S1x1x128.size a ≤ S10x1000x128.size a)
theorem k0_off71_inb : ∀ (i : grid0.Coords) (v38 : BitVec 32) (k0_hw71 : k0_chk71 i v38), ∀ (k0_h8 : k0_cond8 i = 1#1), ∀ a, (k0_off71 v38) a + S1x1x128.size a ≤ S10x1000x128.size a := fun i v38 k0_hw71 k0_h8 => k0_hw71 k0_h8

def k0_off72 (v45 : BitVec 32) : Fin 3 → Nat :=
  let c1 : Index := 1#32
  let v46 : Index := Scalar.indexCast v45
  let c0_20 : Index := 0#32
  ![1, v46.toNat, 0]

def k0_chk72 (i : grid0.Coords) (v45 : BitVec 32) : Prop :=
  (∀ (k0_h8 : k0_cond8 i = 1#1), ∀ a, (k0_off72 v45) a + S1x1x128.size a ≤ S10x1000x128.size a)
theorem k0_off72_inb : ∀ (i : grid0.Coords) (v45 : BitVec 32) (k0_hw72 : k0_chk72 i v45), ∀ (k0_h8 : k0_cond8 i = 1#1), ∀ a, (k0_off72 v45) a + S1x1x128.size a ≤ S10x1000x128.size a := fun i v45 k0_hw72 k0_h8 => k0_hw72 k0_h8

def k0_off73 (v52 : BitVec 32) : Fin 3 → Nat :=
  let c2 : Index := 2#32
  let v53 : Index := Scalar.indexCast v52
  let c0_23 : Index := 0#32
  ![2, v53.toNat, 0]

def k0_chk73 (i : grid0.Coords) (v52 : BitVec 32) : Prop :=
  (∀ (k0_h8 : k0_cond8 i = 1#1), ∀ a, (k0_off73 v52) a + S1x1x128.size a ≤ S10x1000x128.size a)
theorem k0_off73_inb : ∀ (i : grid0.Coords) (v52 : BitVec 32) (k0_hw73 : k0_chk73 i v52), ∀ (k0_h8 : k0_cond8 i = 1#1), ∀ a, (k0_off73 v52) a + S1x1x128.size a ≤ S10x1000x128.size a := fun i v52 k0_hw73 k0_h8 => k0_hw73 k0_h8

def k0_off74 (v59 : BitVec 32) : Fin 3 → Nat :=
  let c3 : Index := 3#32
  let v60 : Index := Scalar.indexCast v59
  let c0_26 : Index := 0#32
  ![3, v60.toNat, 0]

def k0_chk74 (i : grid0.Coords) (v59 : BitVec 32) : Prop :=
  (∀ (k0_h8 : k0_cond8 i = 1#1), ∀ a, (k0_off74 v59) a + S1x1x128.size a ≤ S10x1000x128.size a)
theorem k0_off74_inb : ∀ (i : grid0.Coords) (v59 : BitVec 32) (k0_hw74 : k0_chk74 i v59), ∀ (k0_h8 : k0_cond8 i = 1#1), ∀ a, (k0_off74 v59) a + S1x1x128.size a ≤ S10x1000x128.size a := fun i v59 k0_hw74 k0_h8 => k0_hw74 k0_h8

def k0_off75 (v66 : BitVec 32) : Fin 3 → Nat :=
  let c4 : Index := 4#32
  let v67 : Index := Scalar.indexCast v66
  let c0_29 : Index := 0#32
  ![4, v67.toNat, 0]

def k0_chk75 (i : grid0.Coords) (v66 : BitVec 32) : Prop :=
  (∀ (k0_h8 : k0_cond8 i = 1#1), ∀ a, (k0_off75 v66) a + S1x1x128.size a ≤ S10x1000x128.size a)
theorem k0_off75_inb : ∀ (i : grid0.Coords) (v66 : BitVec 32) (k0_hw75 : k0_chk75 i v66), ∀ (k0_h8 : k0_cond8 i = 1#1), ∀ a, (k0_off75 v66) a + S1x1x128.size a ≤ S10x1000x128.size a := fun i v66 k0_hw75 k0_h8 => k0_hw75 k0_h8

def k0_off76 (v73 : BitVec 32) : Fin 3 → Nat :=
  let c5 : Index := 5#32
  let v74 : Index := Scalar.indexCast v73
  let c0_32 : Index := 0#32
  ![5, v74.toNat, 0]

def k0_chk76 (i : grid0.Coords) (v73 : BitVec 32) : Prop :=
  (∀ (k0_h8 : k0_cond8 i = 1#1), ∀ a, (k0_off76 v73) a + S1x1x128.size a ≤ S10x1000x128.size a)
theorem k0_off76_inb : ∀ (i : grid0.Coords) (v73 : BitVec 32) (k0_hw76 : k0_chk76 i v73), ∀ (k0_h8 : k0_cond8 i = 1#1), ∀ a, (k0_off76 v73) a + S1x1x128.size a ≤ S10x1000x128.size a := fun i v73 k0_hw76 k0_h8 => k0_hw76 k0_h8

def k0_off77 (v80 : BitVec 32) : Fin 3 → Nat :=
  let c6 : Index := 6#32
  let v81 : Index := Scalar.indexCast v80
  let c0_35 : Index := 0#32
  ![6, v81.toNat, 0]

def k0_chk77 (i : grid0.Coords) (v80 : BitVec 32) : Prop :=
  (∀ (k0_h8 : k0_cond8 i = 1#1), ∀ a, (k0_off77 v80) a + S1x1x128.size a ≤ S10x1000x128.size a)
theorem k0_off77_inb : ∀ (i : grid0.Coords) (v80 : BitVec 32) (k0_hw77 : k0_chk77 i v80), ∀ (k0_h8 : k0_cond8 i = 1#1), ∀ a, (k0_off77 v80) a + S1x1x128.size a ≤ S10x1000x128.size a := fun i v80 k0_hw77 k0_h8 => k0_hw77 k0_h8

def k0_off78 (v87 : BitVec 32) : Fin 3 → Nat :=
  let c7 : Index := 7#32
  let v88 : Index := Scalar.indexCast v87
  let c0_38 : Index := 0#32
  ![7, v88.toNat, 0]

def k0_chk78 (i : grid0.Coords) (v87 : BitVec 32) : Prop :=
  (∀ (k0_h8 : k0_cond8 i = 1#1), ∀ a, (k0_off78 v87) a + S1x1x128.size a ≤ S10x1000x128.size a)
theorem k0_off78_inb : ∀ (i : grid0.Coords) (v87 : BitVec 32) (k0_hw78 : k0_chk78 i v87), ∀ (k0_h8 : k0_cond8 i = 1#1), ∀ a, (k0_off78 v87) a + S1x1x128.size a ≤ S10x1000x128.size a := fun i v87 k0_hw78 k0_h8 => k0_hw78 k0_h8

def k0_off79 (v94 : BitVec 32) : Fin 3 → Nat :=
  let c8 : Index := 8#32
  let v95 : Index := Scalar.indexCast v94
  let c0_41 : Index := 0#32
  ![8, v95.toNat, 0]

def k0_chk79 (i : grid0.Coords) (v94 : BitVec 32) : Prop :=
  (∀ (k0_h8 : k0_cond8 i = 1#1), ∀ a, (k0_off79 v94) a + S1x1x128.size a ≤ S10x1000x128.size a)
theorem k0_off79_inb : ∀ (i : grid0.Coords) (v94 : BitVec 32) (k0_hw79 : k0_chk79 i v94), ∀ (k0_h8 : k0_cond8 i = 1#1), ∀ a, (k0_off79 v94) a + S1x1x128.size a ≤ S10x1000x128.size a := fun i v94 k0_hw79 k0_h8 => k0_hw79 k0_h8

def k0_off80 (v101 : BitVec 32) : Fin 3 → Nat :=
  let c9 : Index := 9#32
  let v102 : Index := Scalar.indexCast v101
  let c0_44 : Index := 0#32
  ![9, v102.toNat, 0]

def k0_chk80 (i : grid0.Coords) (v101 : BitVec 32) : Prop :=
  (∀ (k0_h8 : k0_cond8 i = 1#1), ∀ a, (k0_off80 v101) a + S1x1x128.size a ≤ S10x1000x128.size a)
theorem k0_off80_inb : ∀ (i : grid0.Coords) (v101 : BitVec 32) (k0_hw80 : k0_chk80 i v101), ∀ (k0_h8 : k0_cond8 i = 1#1), ∀ a, (k0_off80 v101) a + S1x1x128.size a ≤ S10x1000x128.size a := fun i v101 k0_hw80 k0_h8 => k0_hw80 k0_h8

def k0_cond9 (i : grid0.Coords) : BitVec 1 :=
  let arg0 : BitVec 32 := BitVec.ofNat 32 (i 0).val
  let c8_i32 : BitVec 32 := 8#32
  let v26 : BitVec 1 := Scalar.cmpi .eq arg0 c8_i32
  let v27 : BitVec 32 := Scalar.extui v26
  let c0_i32_10 : BitVec 32 := 0#32
  let v28 : BitVec 1 := Scalar.cmpi .ne v27 c0_i32_10
  v28

def k0_off81 (v38 : BitVec 32) : Fin 3 → Nat :=
  let c0_16 : Index := 0#32
  let v39 : Index := Scalar.indexCast v38
  let c0_17 : Index := 0#32
  ![0, v39.toNat, 0]

def k0_chk81 (i : grid0.Coords) (v38 : BitVec 32) : Prop :=
  (∀ (k0_h9 : k0_cond9 i = 1#1), ∀ a, (k0_off81 v38) a + S1x1x128.size a ≤ S10x1000x128.size a)
theorem k0_off81_inb : ∀ (i : grid0.Coords) (v38 : BitVec 32) (k0_hw81 : k0_chk81 i v38), ∀ (k0_h9 : k0_cond9 i = 1#1), ∀ a, (k0_off81 v38) a + S1x1x128.size a ≤ S10x1000x128.size a := fun i v38 k0_hw81 k0_h9 => k0_hw81 k0_h9

def k0_off82 (v45 : BitVec 32) : Fin 3 → Nat :=
  let c1 : Index := 1#32
  let v46 : Index := Scalar.indexCast v45
  let c0_20 : Index := 0#32
  ![1, v46.toNat, 0]

def k0_chk82 (i : grid0.Coords) (v45 : BitVec 32) : Prop :=
  (∀ (k0_h9 : k0_cond9 i = 1#1), ∀ a, (k0_off82 v45) a + S1x1x128.size a ≤ S10x1000x128.size a)
theorem k0_off82_inb : ∀ (i : grid0.Coords) (v45 : BitVec 32) (k0_hw82 : k0_chk82 i v45), ∀ (k0_h9 : k0_cond9 i = 1#1), ∀ a, (k0_off82 v45) a + S1x1x128.size a ≤ S10x1000x128.size a := fun i v45 k0_hw82 k0_h9 => k0_hw82 k0_h9

def k0_off83 (v52 : BitVec 32) : Fin 3 → Nat :=
  let c2 : Index := 2#32
  let v53 : Index := Scalar.indexCast v52
  let c0_23 : Index := 0#32
  ![2, v53.toNat, 0]

def k0_chk83 (i : grid0.Coords) (v52 : BitVec 32) : Prop :=
  (∀ (k0_h9 : k0_cond9 i = 1#1), ∀ a, (k0_off83 v52) a + S1x1x128.size a ≤ S10x1000x128.size a)
theorem k0_off83_inb : ∀ (i : grid0.Coords) (v52 : BitVec 32) (k0_hw83 : k0_chk83 i v52), ∀ (k0_h9 : k0_cond9 i = 1#1), ∀ a, (k0_off83 v52) a + S1x1x128.size a ≤ S10x1000x128.size a := fun i v52 k0_hw83 k0_h9 => k0_hw83 k0_h9

def k0_off84 (v59 : BitVec 32) : Fin 3 → Nat :=
  let c3 : Index := 3#32
  let v60 : Index := Scalar.indexCast v59
  let c0_26 : Index := 0#32
  ![3, v60.toNat, 0]

def k0_chk84 (i : grid0.Coords) (v59 : BitVec 32) : Prop :=
  (∀ (k0_h9 : k0_cond9 i = 1#1), ∀ a, (k0_off84 v59) a + S1x1x128.size a ≤ S10x1000x128.size a)
theorem k0_off84_inb : ∀ (i : grid0.Coords) (v59 : BitVec 32) (k0_hw84 : k0_chk84 i v59), ∀ (k0_h9 : k0_cond9 i = 1#1), ∀ a, (k0_off84 v59) a + S1x1x128.size a ≤ S10x1000x128.size a := fun i v59 k0_hw84 k0_h9 => k0_hw84 k0_h9

def k0_off85 (v66 : BitVec 32) : Fin 3 → Nat :=
  let c4 : Index := 4#32
  let v67 : Index := Scalar.indexCast v66
  let c0_29 : Index := 0#32
  ![4, v67.toNat, 0]

def k0_chk85 (i : grid0.Coords) (v66 : BitVec 32) : Prop :=
  (∀ (k0_h9 : k0_cond9 i = 1#1), ∀ a, (k0_off85 v66) a + S1x1x128.size a ≤ S10x1000x128.size a)
theorem k0_off85_inb : ∀ (i : grid0.Coords) (v66 : BitVec 32) (k0_hw85 : k0_chk85 i v66), ∀ (k0_h9 : k0_cond9 i = 1#1), ∀ a, (k0_off85 v66) a + S1x1x128.size a ≤ S10x1000x128.size a := fun i v66 k0_hw85 k0_h9 => k0_hw85 k0_h9

def k0_off86 (v73 : BitVec 32) : Fin 3 → Nat :=
  let c5 : Index := 5#32
  let v74 : Index := Scalar.indexCast v73
  let c0_32 : Index := 0#32
  ![5, v74.toNat, 0]

def k0_chk86 (i : grid0.Coords) (v73 : BitVec 32) : Prop :=
  (∀ (k0_h9 : k0_cond9 i = 1#1), ∀ a, (k0_off86 v73) a + S1x1x128.size a ≤ S10x1000x128.size a)
theorem k0_off86_inb : ∀ (i : grid0.Coords) (v73 : BitVec 32) (k0_hw86 : k0_chk86 i v73), ∀ (k0_h9 : k0_cond9 i = 1#1), ∀ a, (k0_off86 v73) a + S1x1x128.size a ≤ S10x1000x128.size a := fun i v73 k0_hw86 k0_h9 => k0_hw86 k0_h9

def k0_off87 (v80 : BitVec 32) : Fin 3 → Nat :=
  let c6 : Index := 6#32
  let v81 : Index := Scalar.indexCast v80
  let c0_35 : Index := 0#32
  ![6, v81.toNat, 0]

def k0_chk87 (i : grid0.Coords) (v80 : BitVec 32) : Prop :=
  (∀ (k0_h9 : k0_cond9 i = 1#1), ∀ a, (k0_off87 v80) a + S1x1x128.size a ≤ S10x1000x128.size a)
theorem k0_off87_inb : ∀ (i : grid0.Coords) (v80 : BitVec 32) (k0_hw87 : k0_chk87 i v80), ∀ (k0_h9 : k0_cond9 i = 1#1), ∀ a, (k0_off87 v80) a + S1x1x128.size a ≤ S10x1000x128.size a := fun i v80 k0_hw87 k0_h9 => k0_hw87 k0_h9

def k0_off88 (v87 : BitVec 32) : Fin 3 → Nat :=
  let c7 : Index := 7#32
  let v88 : Index := Scalar.indexCast v87
  let c0_38 : Index := 0#32
  ![7, v88.toNat, 0]

def k0_chk88 (i : grid0.Coords) (v87 : BitVec 32) : Prop :=
  (∀ (k0_h9 : k0_cond9 i = 1#1), ∀ a, (k0_off88 v87) a + S1x1x128.size a ≤ S10x1000x128.size a)
theorem k0_off88_inb : ∀ (i : grid0.Coords) (v87 : BitVec 32) (k0_hw88 : k0_chk88 i v87), ∀ (k0_h9 : k0_cond9 i = 1#1), ∀ a, (k0_off88 v87) a + S1x1x128.size a ≤ S10x1000x128.size a := fun i v87 k0_hw88 k0_h9 => k0_hw88 k0_h9

def k0_off89 (v94 : BitVec 32) : Fin 3 → Nat :=
  let c8 : Index := 8#32
  let v95 : Index := Scalar.indexCast v94
  let c0_41 : Index := 0#32
  ![8, v95.toNat, 0]

def k0_chk89 (i : grid0.Coords) (v94 : BitVec 32) : Prop :=
  (∀ (k0_h9 : k0_cond9 i = 1#1), ∀ a, (k0_off89 v94) a + S1x1x128.size a ≤ S10x1000x128.size a)
theorem k0_off89_inb : ∀ (i : grid0.Coords) (v94 : BitVec 32) (k0_hw89 : k0_chk89 i v94), ∀ (k0_h9 : k0_cond9 i = 1#1), ∀ a, (k0_off89 v94) a + S1x1x128.size a ≤ S10x1000x128.size a := fun i v94 k0_hw89 k0_h9 => k0_hw89 k0_h9

def k0_off90 (v101 : BitVec 32) : Fin 3 → Nat :=
  let c9 : Index := 9#32
  let v102 : Index := Scalar.indexCast v101
  let c0_44 : Index := 0#32
  ![9, v102.toNat, 0]

def k0_chk90 (i : grid0.Coords) (v101 : BitVec 32) : Prop :=
  (∀ (k0_h9 : k0_cond9 i = 1#1), ∀ a, (k0_off90 v101) a + S1x1x128.size a ≤ S10x1000x128.size a)
theorem k0_off90_inb : ∀ (i : grid0.Coords) (v101 : BitVec 32) (k0_hw90 : k0_chk90 i v101), ∀ (k0_h9 : k0_cond9 i = 1#1), ∀ a, (k0_off90 v101) a + S1x1x128.size a ≤ S10x1000x128.size a := fun i v101 k0_hw90 k0_h9 => k0_hw90 k0_h9

def k0_cond10 (i : grid0.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_11 : BitVec 32 := 0#32
  let v31 : BitVec 1 := Scalar.cmpi .ne v30 c0_i32_11
  v31

def k0_off91 (v38 : BitVec 32) : Fin 3 → Nat :=
  let c0_16 : Index := 0#32
  let v39 : Index := Scalar.indexCast v38
  let c0_17 : Index := 0#32
  ![0, v39.toNat, 0]

def k0_chk91 (i : grid0.Coords) (v38 : BitVec 32) : Prop :=
  (∀ (k0_h10 : k0_cond10 i = 1#1), ∀ a, (k0_off91 v38) a + S1x1x128.size a ≤ S10x1000x128.size a)
theorem k0_off91_inb : ∀ (i : grid0.Coords) (v38 : BitVec 32) (k0_hw91 : k0_chk91 i v38), ∀ (k0_h10 : k0_cond10 i = 1#1), ∀ a, (k0_off91 v38) a + S1x1x128.size a ≤ S10x1000x128.size a := fun i v38 k0_hw91 k0_h10 => k0_hw91 k0_h10

def k0_off92 (v45 : BitVec 32) : Fin 3 → Nat :=
  let c1 : Index := 1#32
  let v46 : Index := Scalar.indexCast v45
  let c0_20 : Index := 0#32
  ![1, v46.toNat, 0]

def k0_chk92 (i : grid0.Coords) (v45 : BitVec 32) : Prop :=
  (∀ (k0_h10 : k0_cond10 i = 1#1), ∀ a, (k0_off92 v45) a + S1x1x128.size a ≤ S10x1000x128.size a)
theorem k0_off92_inb : ∀ (i : grid0.Coords) (v45 : BitVec 32) (k0_hw92 : k0_chk92 i v45), ∀ (k0_h10 : k0_cond10 i = 1#1), ∀ a, (k0_off92 v45) a + S1x1x128.size a ≤ S10x1000x128.size a := fun i v45 k0_hw92 k0_h10 => k0_hw92 k0_h10

def k0_off93 (v52 : BitVec 32) : Fin 3 → Nat :=
  let c2 : Index := 2#32
  let v53 : Index := Scalar.indexCast v52
  let c0_23 : Index := 0#32
  ![2, v53.toNat, 0]

def k0_chk93 (i : grid0.Coords) (v52 : BitVec 32) : Prop :=
  (∀ (k0_h10 : k0_cond10 i = 1#1), ∀ a, (k0_off93 v52) a + S1x1x128.size a ≤ S10x1000x128.size a)
theorem k0_off93_inb : ∀ (i : grid0.Coords) (v52 : BitVec 32) (k0_hw93 : k0_chk93 i v52), ∀ (k0_h10 : k0_cond10 i = 1#1), ∀ a, (k0_off93 v52) a + S1x1x128.size a ≤ S10x1000x128.size a := fun i v52 k0_hw93 k0_h10 => k0_hw93 k0_h10

def k0_off94 (v59 : BitVec 32) : Fin 3 → Nat :=
  let c3 : Index := 3#32
  let v60 : Index := Scalar.indexCast v59
  let c0_26 : Index := 0#32
  ![3, v60.toNat, 0]

def k0_chk94 (i : grid0.Coords) (v59 : BitVec 32) : Prop :=
  (∀ (k0_h10 : k0_cond10 i = 1#1), ∀ a, (k0_off94 v59) a + S1x1x128.size a ≤ S10x1000x128.size a)
theorem k0_off94_inb : ∀ (i : grid0.Coords) (v59 : BitVec 32) (k0_hw94 : k0_chk94 i v59), ∀ (k0_h10 : k0_cond10 i = 1#1), ∀ a, (k0_off94 v59) a + S1x1x128.size a ≤ S10x1000x128.size a := fun i v59 k0_hw94 k0_h10 => k0_hw94 k0_h10

def k0_off95 (v66 : BitVec 32) : Fin 3 → Nat :=
  let c4 : Index := 4#32
  let v67 : Index := Scalar.indexCast v66
  let c0_29 : Index := 0#32
  ![4, v67.toNat, 0]

def k0_chk95 (i : grid0.Coords) (v66 : BitVec 32) : Prop :=
  (∀ (k0_h10 : k0_cond10 i = 1#1), ∀ a, (k0_off95 v66) a + S1x1x128.size a ≤ S10x1000x128.size a)
theorem k0_off95_inb : ∀ (i : grid0.Coords) (v66 : BitVec 32) (k0_hw95 : k0_chk95 i v66), ∀ (k0_h10 : k0_cond10 i = 1#1), ∀ a, (k0_off95 v66) a + S1x1x128.size a ≤ S10x1000x128.size a := fun i v66 k0_hw95 k0_h10 => k0_hw95 k0_h10

def k0_off96 (v73 : BitVec 32) : Fin 3 → Nat :=
  let c5 : Index := 5#32
  let v74 : Index := Scalar.indexCast v73
  let c0_32 : Index := 0#32
  ![5, v74.toNat, 0]

def k0_chk96 (i : grid0.Coords) (v73 : BitVec 32) : Prop :=
  (∀ (k0_h10 : k0_cond10 i = 1#1), ∀ a, (k0_off96 v73) a + S1x1x128.size a ≤ S10x1000x128.size a)
theorem k0_off96_inb : ∀ (i : grid0.Coords) (v73 : BitVec 32) (k0_hw96 : k0_chk96 i v73), ∀ (k0_h10 : k0_cond10 i = 1#1), ∀ a, (k0_off96 v73) a + S1x1x128.size a ≤ S10x1000x128.size a := fun i v73 k0_hw96 k0_h10 => k0_hw96 k0_h10

def k0_off97 (v80 : BitVec 32) : Fin 3 → Nat :=
  let c6 : Index := 6#32
  let v81 : Index := Scalar.indexCast v80
  let c0_35 : Index := 0#32
  ![6, v81.toNat, 0]

def k0_chk97 (i : grid0.Coords) (v80 : BitVec 32) : Prop :=
  (∀ (k0_h10 : k0_cond10 i = 1#1), ∀ a, (k0_off97 v80) a + S1x1x128.size a ≤ S10x1000x128.size a)
theorem k0_off97_inb : ∀ (i : grid0.Coords) (v80 : BitVec 32) (k0_hw97 : k0_chk97 i v80), ∀ (k0_h10 : k0_cond10 i = 1#1), ∀ a, (k0_off97 v80) a + S1x1x128.size a ≤ S10x1000x128.size a := fun i v80 k0_hw97 k0_h10 => k0_hw97 k0_h10

def k0_off98 (v87 : BitVec 32) : Fin 3 → Nat :=
  let c7 : Index := 7#32
  let v88 : Index := Scalar.indexCast v87
  let c0_38 : Index := 0#32
  ![7, v88.toNat, 0]

def k0_chk98 (i : grid0.Coords) (v87 : BitVec 32) : Prop :=
  (∀ (k0_h10 : k0_cond10 i = 1#1), ∀ a, (k0_off98 v87) a + S1x1x128.size a ≤ S10x1000x128.size a)
theorem k0_off98_inb : ∀ (i : grid0.Coords) (v87 : BitVec 32) (k0_hw98 : k0_chk98 i v87), ∀ (k0_h10 : k0_cond10 i = 1#1), ∀ a, (k0_off98 v87) a + S1x1x128.size a ≤ S10x1000x128.size a := fun i v87 k0_hw98 k0_h10 => k0_hw98 k0_h10

def k0_off99 (v94 : BitVec 32) : Fin 3 → Nat :=
  let c8 : Index := 8#32
  let v95 : Index := Scalar.indexCast v94
  let c0_41 : Index := 0#32
  ![8, v95.toNat, 0]

def k0_chk99 (i : grid0.Coords) (v94 : BitVec 32) : Prop :=
  (∀ (k0_h10 : k0_cond10 i = 1#1), ∀ a, (k0_off99 v94) a + S1x1x128.size a ≤ S10x1000x128.size a)
theorem k0_off99_inb : ∀ (i : grid0.Coords) (v94 : BitVec 32) (k0_hw99 : k0_chk99 i v94), ∀ (k0_h10 : k0_cond10 i = 1#1), ∀ a, (k0_off99 v94) a + S1x1x128.size a ≤ S10x1000x128.size a := fun i v94 k0_hw99 k0_h10 => k0_hw99 k0_h10

def k0_off100 (v101 : BitVec 32) : Fin 3 → Nat :=
  let c9 : Index := 9#32
  let v102 : Index := Scalar.indexCast v101
  let c0_44 : Index := 0#32
  ![9, v102.toNat, 0]

def k0_chk100 (i : grid0.Coords) (v101 : BitVec 32) : Prop :=
  (∀ (k0_h10 : k0_cond10 i = 1#1), ∀ a, (k0_off100 v101) a + S1x1x128.size a ≤ S10x1000x128.size a)
theorem k0_off100_inb : ∀ (i : grid0.Coords) (v101 : BitVec 32) (k0_hw100 : k0_chk100 i v101), ∀ (k0_h10 : k0_cond10 i = 1#1), ∀ a, (k0_off100 v101) a + S1x1x128.size a ≤ S10x1000x128.size a := fun i v101 k0_hw100 k0_h10 => k0_hw100 k0_h10

def k0_cond11 (i : grid0.Coords) : BitVec 1 :=
  let arg0 : BitVec 32 := BitVec.ofNat 32 (i 0).val
  let c9_i32_12 : BitVec 32 := 9#32
  let v32 : BitVec 1 := Scalar.cmpi .eq arg0 c9_i32_12
  let v33 : BitVec 32 := Scalar.extui v32
  let c0_i32_13 : BitVec 32 := 0#32
  let v34 : BitVec 1 := Scalar.cmpi .ne v33 c0_i32_13
  v34

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x100 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S100x1000x128 : Shape := ⟨3, ![100, 1000, 128]⟩
abbrev S100 : Shape := ⟨1, ![100]⟩
abbrev S100x1 : Shape := ⟨2, ![100, 1]⟩
abbrev S256x1 : Shape := ⟨2, ![256, 1]⟩
abbrev S1 : Shape := ⟨1, ![1]⟩
abbrev S128x128 : Shape := ⟨2, ![128, 128]⟩
abbrev S128 : Shape := ⟨1, ![128]⟩
abbrev S1x128 : Shape := ⟨2, ![1, 128]⟩
abbrev S_ : Shape := ⟨0, ![]⟩
abbrev S100x128 : Shape := ⟨2, ![100, 128]⟩
abbrev S100x1x1 : Shape := ⟨3, ![100, 1, 1]⟩
abbrev S1x1x1 : Shape := ⟨3, ![1, 1, 1]⟩
abbrev S100x1x128 : Shape := ⟨3, ![100, 1, 128]⟩
abbrev S100x256 : Shape := ⟨2, ![100, 256]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S100x1000x128, .f32⟩
  | .hbm, ⟨1, _⟩ => ⟨S100, .i32⟩
  | .hbm, ⟨2, _⟩ => ⟨S100x1, .f32⟩
  | .hbm, ⟨3, _⟩ => ⟨S100x1, .f32⟩
  | .hbm, ⟨4, _⟩ => ⟨S256x1, .f32⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S_, .f32⟩
  | .hbm, ⟨15, _⟩ => ⟨S100x128, .f32⟩
  | .hbm, ⟨16, _⟩ => ⟨S100x128, .f32⟩
  | .hbm, ⟨17, _⟩ => ⟨S1x128, .f32⟩
  | .hbm, ⟨18, _⟩ => ⟨S100x128, .f32⟩
  | .hbm, ⟨19, _⟩ => ⟨S100x128, .f32⟩
  | .hbm, ⟨20, _⟩ => ⟨S100x1x1, .i32⟩
  | .hbm, ⟨21, _⟩ => ⟨S_, .i32⟩
  | .hbm, ⟨22, _⟩ => ⟨S1x1x1, .i32⟩
  | .hbm, ⟨23, _⟩ => ⟨S100x1x1, .i32⟩
  | .hbm, ⟨24, _⟩ => ⟨S100x1x1, .i32⟩
  | .hbm, ⟨25, _⟩ => ⟨S_, .i32⟩
  | .hbm, ⟨26, _⟩ => ⟨S100x1x1, .i32⟩
  | .hbm, ⟨27, _⟩ => ⟨S100x1x1, .i1⟩
  | .hbm, ⟨28, _⟩ => ⟨S_, .i32⟩
  | .hbm, ⟨29, _⟩ => ⟨S100x1x1, .i32⟩
  | .hbm, ⟨30, _⟩ => ⟨S100x1x1, .i32⟩
  | .hbm, ⟨31, _⟩ => ⟨S100x1x1, .i32⟩
  | .hbm, ⟨32, _⟩ => ⟨S1, .i32⟩
  | .hbm, ⟨33, _⟩ => ⟨S_, .i32⟩
  | .hbm, ⟨34, _⟩ => ⟨S100x1x1, .i32⟩
  | .hbm, ⟨35, _⟩ => ⟨S100x1x1, .i1⟩
  | .hbm, ⟨36, _⟩ => ⟨S1x1x1, .i32⟩
  | .hbm, ⟨37, _⟩ => ⟨S100x1x1, .i32⟩
  | .hbm, ⟨38, _⟩ => ⟨S100x1x1, .i1⟩
  | .hbm, ⟨39, _⟩ => ⟨S100x1x1, .i1⟩
  | .hbm, ⟨40, _⟩ => ⟨S_, .i1⟩
  | .hbm, ⟨41, _⟩ => ⟨S100x1, .i1⟩
  | .hbm, ⟨42, _⟩ => ⟨S100x1x128, .f32⟩
  | .hbm, ⟨43, _⟩ => ⟨S100x1x128, .i1⟩
  | .hbm, ⟨44, _⟩ => ⟨S_, .f32⟩
  | .hbm, ⟨45, _⟩ => ⟨S100x1x128, .f32⟩
  | .hbm, ⟨46, _⟩ => ⟨S100x1x128, .f32⟩
  | .hbm, ⟨47, _⟩ => ⟨S100x128, .f32⟩
  | .hbm, ⟨48, _⟩ => ⟨S100x128, .f32⟩
  | .hbm, ⟨49, _⟩ => ⟨S1x128, .f32⟩
  | .hbm, ⟨50, _⟩ => ⟨S100x128, .f32⟩
  | .hbm, ⟨51, _⟩ => ⟨S100x128, .f32⟩
  | .hbm, ⟨52, _⟩ => ⟨S100x128, .f32⟩
  | .hbm, ⟨53, _⟩ => ⟨S100x128, .f32⟩
  | .hbm, ⟨54, _⟩ => ⟨S1x128, .f32⟩
  | .hbm, ⟨55, _⟩ => ⟨S100x128, .f32⟩
  | .hbm, ⟨56, _⟩ => ⟨S100x128, .f32⟩
  | .hbm, ⟨57, _⟩ => ⟨S100x128, .f32⟩
  | .hbm, ⟨58, _⟩ => ⟨S100x128, .f32⟩
  | .hbm, ⟨59, _⟩ => ⟨S1x128, .f32⟩
  | .hbm, ⟨60, _⟩ => ⟨S100x128, .f32⟩
  | .hbm, ⟨61, _⟩ => ⟨S100x128, .f32⟩
  | .hbm, ⟨62, _⟩ => ⟨S100x256, .f32⟩
  | .hbm, ⟨63, _⟩ => ⟨S_, .f32⟩
  | .hbm, ⟨64, _⟩ => ⟨S100x256, .f32⟩
  | .hbm, ⟨65, _⟩ => ⟨S100x256, .f32⟩
  | .hbm, ⟨66, _⟩ => ⟨S100x1, .f32⟩
  | .hbm, ⟨67, _⟩ => ⟨S1x1, .f32⟩
  | .hbm, ⟨68, _⟩ => ⟨S100x1, .f32⟩
  | .hbm, ⟨69, _⟩ => ⟨S100x1, .f32⟩
  | _, _ => ⟨S100x1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_c_2 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_c_3 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_cst : Ref sig .tc := ⟨.hbm, 44, rfl⟩
abbrev main_call0_v14 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_call1_cst : Ref sig .tc := ⟨.hbm, 63, rfl⟩
abbrev main_call1_v0 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩

abbrev nD : Nat := 1
abbrev τ : Topo := Topo.v7x

variable {F : FTy → Type} [FloatOps F]
-- ==== Proof.Body.lean ====
module

public import proofs.«01_k».proof.Proof.Gen.Kernel.Skeleton

/-! The kernel's body, written once for every block.

The body of one grid point has ten branches. Branch `k` runs at grid point `k` and stores the point's row sums and ten copied
rows. Here a branch is one program with `k` as a parameter, and one copied row is one program with its row and its graph as
parameters. The last statement says that the body is these programs in a row, by unfolding.
-/

@[expose] public section

set_option maxRecDepth 16384

noncomputable section

namespace Cert.Kernel.Value

open Idealize.ShloMosaic Idealize.SL.Sem Cert.Kernel.Gen

variable {F : FTy → Type} [FloatOps F]

/-- The condition of branch `k`: the grid coordinate is `k`. -/
def cond (k : BitVec 32) (i : grid0.Coords) : BitVec 1 :=
  Scalar.cmpi .ne (Scalar.extui (Scalar.cmpi .eq (BitVec.ofNat 32 (i 0).val) k)) 0#32

/-- Where the row of graph `g` begins that the word `v` names. -/
def off (g : ℕ) (v : BitVec 32) : Fin 3 → ℕ := ![g, (Scalar.indexCast v).toNat, 0]

/-- What the body assumes of the word `v`: inside a branch that is taken, the row lies in the block. -/
def chk (b : BitVec 1) (g : ℕ) (v : BitVec 32) : Prop :=
  ∀ (h : b = 1#1), ∀ a, off g v a + S1x1x128.size a ≤ S10x1000x128.size a

instance chk.dec (b : BitVec 1) (g : ℕ) (v : BitVec 32) : Decidable (chk b g v) := decidable_of_iff' _ (Iff.of_eq (chk.eq_1 b g v))

theorem inb_word {r : ℕ} (h : r < 100) : ∀ a, (![r] : Fin 1 → ℕ) a + S1.size a ≤ S100.size a := by
  intro a; fin_cases a; exact h

theorem inb_row {r : ℕ} (h : r < 100) : ∀ a, (![r, 0] : Fin 2 → ℕ) a + S1x128.size a ≤ S100x128.size a := by
  intro a
  fin_cases a
  · exact h
  · exact le_refl 128

theorem inb_rows {r : ℕ} (h : r + 10 ≤ 100) : ∀ a, (![r, 0] : Fin 2 → ℕ) a + S10x128.size a ≤ S100x128.size a := by
  intro a
  fin_cases a
  · exact h
  · exact le_refl 128

variable (b : BitVec 1) (hb : b = 1#1) (arg1 : Memref sig .tc .smem S100 .i32) (arg2 : Memref sig .tc .vmem S10x1000x128 .f32)
  (arg16 arg17 : Memref sig .tc .vmem S100x128 .f32)

/-- One copied row, then `K`: read word `r`, load the row of graph `g` that it names, and store it in row `r` of the scratch. -/
def copyRow (r g : ℕ) (hr : r < 100) (K : Prog (TpuEff nD τ sig (Elt F) Λ₀ .tc) PUnit) : Prog (TpuEff nD τ sig (Elt F) Λ₀ .tc) PUnit := do
  let v : Elt F .i32 ← smemLoad arg1 (Rect.unit (s := S100) ![r] S1.size (inb_word hr)) numel1_S1 rfl
  have hw : chk b g v := (← Prog.lift (TpuEff.assume (chk b g v) (chk.dec b g v))).down
  let x : Vec F S1x1x128 .f32 ← Prog.lift (.load arg2 (Rect.unit (s := S10x1000x128) (off g v) S1x1x128.size (hw hb)).toLoadRect (View.loadsAt_vmem h_S1x1x128))
  let _y : Vec F S1x128 .f32 ← Prog.lift (.load arg17 (Rect.unit (s := S100x128) ![r, 0] S1x128.size (inb_row hr)).toLoadRect (View.loadsAt_vmem h_S1x128))
  Prog.lift (.store arg17 (Rect.unit (s := S100x128) ![r, 0] S1x128.size (inb_row hr))
    (shapeCast S1x128 (shapeCast S128 x shapeCasts_S1x1x128_S128) shapeCasts_S128_S1x128) Finset.univ (View.stores_vmem_bits_univ h_S1x128 rfl) (.inl rfl))
  K

/-- The last `n` of the ten rows that start at row `r₀`, then `K`. -/
def copyRows (r₀ : ℕ) (hr₀ : r₀ + 10 ≤ 100) (K : Prog (TpuEff nD τ sig (Elt F) Λ₀ .tc) PUnit) :
    (n : ℕ) → n ≤ 10 → Prog (TpuEff nD τ sig (Elt F) Λ₀ .tc) PUnit
  | 0, _ => K
  | n + 1, hn => copyRow b hb arg1 arg2 arg17 (r₀ + (9 - n)) (9 - n) (by omega) (copyRows r₀ hr₀ K n (Nat.le_of_succ_le hn))

/-- A branch's stores, then `K`: the row sums `v` in rows `r₀` to `r₀ + 9` of one scratch, then ten copied rows in the same rows of
the other. -/
def branch (r₀ : ℕ) (hr₀ : r₀ + 10 ≤ 100) (v : FVec F S10x128 .f32) (K : Prog (TpuEff nD τ sig (Elt F) Λ₀ .tc) PUnit) :
    Prog (TpuEff nD τ sig (Elt F) Λ₀ .tc) PUnit := do
  let _y : Vec F S10x128 .f32 ← Prog.lift (.load arg16 (Rect.unit (s := S100x128) ![r₀, 0] S10x128.size (inb_rows hr₀)).toLoadRect (View.loadsAt_vmem h_S10x128))
  Prog.lift (.store arg16 (Rect.unit (s := S100x128) ![r₀, 0] S10x128.size (inb_rows hr₀)) (shapeCast S10x128 v shapeCasts_S10x128_S10x128)
    Finset.univ (View.stores_vmem_bits_univ h_S10x128 rfl) (.inl rfl))
  copyRows b hb arg1 arg2 arg17 r₀ hr₀ K 10 (le_refl 10)

/-- Branch `k` if the grid coordinate is `k`, then `K`. -/
def step (k : BitVec 32) (i : grid0.Coords) (arg1 : Memref sig .tc .smem S100 .i32) (arg2 : Memref sig .tc .vmem S10x1000x128 .f32)
    (arg16 arg17 : Memref sig .tc .vmem S100x128 .f32) (r₀ : ℕ) (hr₀ : r₀ + 10 ≤ 100) (v : FVec F S10x128 .f32)
    (K : Prog (TpuEff nD τ sig (Elt F) Λ₀ .tc) PUnit) : Prog (TpuEff nD τ sig (Elt F) Λ₀ .tc) PUnit :=
  if h : cond k i = 1#1 then branch _ h arg1 arg2 arg16 arg17 r₀ hr₀ v K else K

/-- The sum of a block over its second axis, as the body computes it. -/
def blockSum (x : Vec F S10x1000x128 .f32) : FVec F S10x128 .f32 := k0_pay113 x

/-- What the last grid point stores in the output. -/
def last (i : grid0.Coords) (arg1 : Memref sig .tc .smem S100 .i32) (harg1 : arg1.IsWhole) (arg2 : Memref sig .tc .vmem S10x1000x128 .f32) (harg2 : arg2.IsWhole) (arg3 : Memref sig .tc .vmem S1x100 .f32) (harg3 : arg3.IsWhole) (arg4 : Memref sig .tc .vmem S1x100 .f32) (harg4 : arg4.IsWhole) (arg5 : Memref sig .tc .vmem S256 .f32) (harg5 : arg5.IsWhole) (arg6 : Memref sig .tc .vmem S1 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S128 .f32) (harg14 : arg14.IsWhole) (arg15 : Memref sig .tc .vmem S1x100 .f32) (harg15 : arg15.IsWhole) (arg16 : Memref sig .tc .vmem S100x128 .f32) (harg16 : arg16.IsWhole) (arg17 : Memref sig .tc .vmem S100x128 .f32) (harg17 : arg17.IsWhole) :
    Prog (TpuEff nD τ sig (Elt F) Λ₀ .tc) PUnit := do
  let ⟨v42, v45, v48, v54, v56, v58, v62, v70⟩ : Σ' (v42 : FVec F S100x1 .f32) (v45 : FVec F S128 .f32) (v48 : FVec F S128 .f32) (v54 : FVec F S1x128 .f32) (v56 : FVec F S1x128 .f32) (v58 : Vec F S1x128 .f32) (v62 : FVec F S100x128 .f32), FVec F S100x128 .f32 ← k0_part21_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let v92 : Vec F S1 .f32 ← Prog.lift (.load arg6 (Rect.unit (s := S1) ![0] S1.size inb_S1_S1_0).toLoadRect (View.loadsAt_vmem h_S1))
  let _y : Vec F S1x100 .f32 ← Prog.lift (.load arg15 (Rect.unit (s := S1x100) ![0, 0] S1x100.size inb_S1x100_S1x100_0_0).toLoadRect (View.loadsAt_vmem h_S1x100))
  Prog.lift (.store arg15 (Rect.unit (s := S1x100) ![0, 0] S1x100.size inb_S1x100_S1x100_0_0) (k0_pay5 v42 v45 v48 v54 v56 v58 v62 v70 v92) Finset.univ (View.stores_vmem_bits_univ h_S1x100 rfl) (.inl rfl))
  pure ⟨⟩

/-- The branches from `k` to the last one, then `K`. -/
def steps (i : grid0.Coords) (arg1 : Memref sig .tc .smem S100 .i32) (arg2 : Memref sig .tc .vmem S10x1000x128 .f32)
    (arg16 arg17 : Memref sig .tc .vmem S100x128 .f32) (v : FVec F S10x128 .f32)
    (K : Prog (TpuEff nD τ sig (Elt F) Λ₀ .tc) PUnit) : (n : ℕ) → n ≤ 10 → Prog (TpuEff nD τ sig (Elt F) Λ₀ .tc) PUnit
  | 0, _ => K
  | n + 1, hn => step (BitVec.ofNat 32 (9 - n)) i arg1 arg2 arg16 arg17 (10 * (9 - n)) (by omega) v
      (steps i arg1 arg2 arg16 arg17 v K n (Nat.le_of_succ_le hn))

/-- The whole body: load the block, take the branch of the grid point, and at the last point store the output. -/
def body (i : grid0.Coords) (arg1 : Memref sig .tc .smem S100 .i32) (harg1 : arg1.IsWhole) (arg2 : Memref sig .tc .vmem S10x1000x128 .f32) (harg2 : arg2.IsWhole) (arg3 : Memref sig .tc .vmem S1x100 .f32) (harg3 : arg3.IsWhole) (arg4 : Memref sig .tc .vmem S1x100 .f32) (harg4 : arg4.IsWhole) (arg5 : Memref sig .tc .vmem S256 .f32) (harg5 : arg5.IsWhole) (arg6 : Memref sig .tc .vmem S1 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S128 .f32) (harg14 : arg14.IsWhole) (arg15 : Memref sig .tc .vmem S1x100 .f32) (harg15 : arg15.IsWhole) (arg16 : Memref sig .tc .vmem S100x128 .f32) (harg16 : arg16.IsWhole) (arg17 : Memref sig .tc .vmem S100x128 .f32) (harg17 : arg17.IsWhole) :
    Prog (TpuEff nD τ sig (Elt F) Λ₀ .tc) PUnit := do
  let v0 : Vec F S10x1000x128 .f32 ← Prog.lift (.load arg2 (Rect.unit (s := S10x1000x128) ![0, 0, 0] S10x1000x128.size inb_S10x1000x128_S10x1000x128_0_0_0).toLoadRect (View.loadsAt_vmem h_S10x1000x128))
  steps i arg1 arg2 arg16 arg17 (blockSum v0) (if cond 9#32 i = 1#1 then last i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 else pure ⟨⟩) 10 (le_refl 10)

/-- A conditional that the rest of a program follows is a step, where its block is the branch. -/
theorem step_eq {k : BitVec 32} {i : grid0.Coords} {arg1 : Memref sig .tc .smem S100 .i32} {arg2 : Memref sig .tc .vmem S10x1000x128 .f32}
    {arg16 arg17 : Memref sig .tc .vmem S100x128 .f32} {r₀ : ℕ} {hr₀ : r₀ + 10 ≤ 100} {v : FVec F S10x128 .f32}
    {K : Prog (TpuEff nD τ sig (Elt F) Λ₀ .tc) PUnit} {α : Type} {c : Prop} [hd : Decidable c] (hc : c = (cond k i = 1#1))
    (p : c → Prog (TpuEff nD τ sig (Elt F) Λ₀ .tc) α) (j : PUnit.{1} → Prog (TpuEff nD τ sig (Elt F) Λ₀ .tc) α)
    (f : α → Prog (TpuEff nD τ sig (Elt F) Λ₀ .tc) PUnit)
    (h1 : ∀ h (h' : cond k i = 1#1), p h >>= f = branch _ h' arg1 arg2 arg16 arg17 r₀ hr₀ v (j ⟨⟩ >>= f)) (h2 : j ⟨⟩ >>= f = K) :
    dite c p (fun _ => j ⟨⟩) >>= f = step k i arg1 arg2 arg16 arg17 r₀ hr₀ v K := by
  subst hc h2
  unfold step
  split <;> rename_i h
  · exact h1 h h
  · rfl

set_option maxRecDepth 65536 in
set_option maxHeartbeats 4000000 in
/-- The body as it is printed is the body written here. -/
theorem body_eq : cc0__body (F := F) = body (F := F) := by
  rw [cc0__body_eq_skeleton]
  funext x _ _ _ _ _ _ _ _ _ _ _ _ _ _ _ _ _ _ _ _ _ _ _ _ _ _ _ _ _ _ _ _ _ _
  unfold cc0__body_skel body
  rw [k0_part22_eq_skeleton]
  unfold k0_part22_skel
  extract_lets u
  rw [bind_assoc]
  refine bind_congr fun v0 => ?_
  extract_lets w j8 j7 j6 j5 j4 j3 j2
  iterate 7
    refine step_eq rfl _ _ _ (fun h h' => ?_) ?_
    · rfl
    first | subst j2 | subst j3 | subst j4 | subst j5 | subst j6 | subst j7 | subst j8
  refine step_eq rfl _ (fun _ => _) _ (fun h h' => ?_) ?_
  · rfl
  rw [pure_bind]
  dsimp -zeta only
  extract_lets j0
  refine (bind_pure _).symm.trans ?_
  refine step_eq rfl _ _ _ (fun h h' => ?_) ?_
  · rfl
  subst j0
  try dsimp -zeta only
  try extract_lets j1
  refine step_eq rfl _ _ _ (fun h h' => ?_) ?_
  · rfl
  try subst j1
  refine (bind_pure _).trans ?_
  by_cases h : cond 9#32 x = 1#1
  · exact (dif_pos h).trans (if_pos h).symm
  · exact (dif_neg h).trans (if_neg h).symm

end Cert.Kernel.Value
-- ==== Proof.Kit.lean ====
module

public import proofs.«01_k».proof.Proof.Body
public import proofs.«01_k».proof.Proof.Gen.Kernel.Launch
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

/-! What the launch of the kernel's call needs: the arrays when the call begins, the table's words, each window's block, and the
    lines of host code on both sides of the call. -/

@[expose] public section

set_option maxRecDepth 16384

noncomputable section

namespace Cert.Kernel.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The output block is written back at the last grid point only. -/
theorem flush0_13 (a : (pcfg0 (F := F)).Adm) : ∀ t : Fin (cfg0 a).N, ((cfg0 a).win 13).flush t = true ↔ t.val % 10 = 9 :=
  (fun t => Pipeline.Window.flushOf_const cc0_transform_13 (fun _ _ => rfl) (n := 10) (by decide) rfl t : ∀ t : Fin grid0.N, Pipeline.Window.flushOf grid0 true cc0_transform_13 t = true ↔ t.val % 10 = 9)

/-- The body at grid point `t`. -/
abbrev bodyAt0 (a : (pcfg0 (F := F)).Adm) (t : Fin (cfg0 a).N) : Prog (TpuEff nD τ sig (Elt F) Λ₀ .tc) PUnit :=
  cc0__body (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _)

variable (m : (ℓ : Loc nD τ sig) → Buf (Elt F) ℓ) (ρ : Dev nD → PrngReg)

/-- The contents of every buffer when the call begins: after the three reshapes. -/
abbrev V0 (c : Dev nD) : Valuation τ sig (Elt F) := StableHlo.after (List.flatten [hostOps0]) (fun b => m (c, b))

/-- The same at a TensorCore buffer. -/
abbrev V (c : Dev nD) (b : Ref sig .tc) : Buf (Elt F) ((c : Thread nD τ).loc b) := V0 m c (Proc.devRef .tc b)

/-- The reshapes allocate nothing. -/
theorem hostOps0_fresh : (hostOps0 : List (HloOp τ sig (Elt F))).Forall fun op => op.fresh = ∅ := by
  simp only [List.Forall]; repeat' constructor

/-- Nor does the one after the call. -/
theorem hostOps1_fresh : (hostOps1 : List (HloOp τ sig (Elt F))).Forall fun op => op.fresh = ∅ := by
  simp only [List.Forall]; repeat' constructor

set_option maxHeartbeats 800000 in
/-- The program is the reshapes, the call, and the reshape after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The reshape after the call touches no table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- It writes none of the call's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- A buffer that no reshape before the call writes has its launch contents when the call begins. -/
theorem V_kept (c : Dev nD) {b : Ref sig .tc} (hb : b ≠ main_v0 ∧ b ≠ main_v1 ∧ b ≠ main_v2) : V m c b = m ((c : Thread nD τ).loc b) :=
  StableHlo.after_of_forall_not_mem (b := Proc.devRef .tc b) _ _ (List.forall_iff_forall_mem.mp (by
    obtain ⟨h0, h1, h2⟩ := hb
    simp only [hostOps0, List.flatten_cons, List.flatten_nil, List.append_nil, List.Forall, StableHlo.reshape_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) := V_kept m c (by decide)
theorem V_main_arg1 (c : Dev nD) : V m c main_arg1 = m ((c : Thread nD τ).loc main_arg1) := V_kept m c (by decide)
theorem V_main_arg2 (c : Dev nD) : V m c main_arg2 = m ((c : Thread nD τ).loc main_arg2) := V_kept m c (by decide)
theorem V_main_arg3 (c : Dev nD) : V m c main_arg3 = m ((c : Thread nD τ).loc main_arg3) := V_kept m c (by decide)
theorem V_main_arg4 (c : Dev nD) : V m c main_arg4 = m ((c : Thread nD τ).loc main_arg4) := V_kept m c (by decide)
theorem V_main_arg5 (c : Dev nD) : V m c main_arg5 = m ((c : Thread nD τ).loc main_arg5) := V_kept m c (by decide)
theorem V_main_arg6 (c : Dev nD) : V m c main_arg6 = m ((c : Thread nD τ).loc main_arg6) := V_kept m c (by decide)
theorem V_main_arg7 (c : Dev nD) : V m c main_arg7 = m ((c : Thread nD τ).loc main_arg7) := V_kept m c (by decide)
theorem V_main_arg8 (c : Dev nD) : V m c main_arg8 = m ((c : Thread nD τ).loc main_arg8) := V_kept m c (by decide)
theorem V_main_arg9 (c : Dev nD) : V m c main_arg9 = m ((c : Thread nD τ).loc main_arg9) := V_kept m c (by decide)
theorem V_main_arg10 (c : Dev nD) : V m c main_arg10 = m ((c : Thread nD τ).loc main_arg10) := V_kept m c (by decide)
theorem V_main_arg11 (c : Dev nD) : V m c main_arg11 = m ((c : Thread nD τ).loc main_arg11) := V_kept m c (by decide)
theorem V_main_arg12 (c : Dev nD) : V m c main_arg12 = m ((c : Thread nD τ).loc main_arg12) := V_kept m c (by decide)
theorem V_main_arg13 (c : Dev nD) : V m c main_arg13 = m ((c : Thread nD τ).loc main_arg13) := V_kept m c (by decide)

/-- The table's words when the call begins. -/
def tbl : pre0.Contents (Elt F) := fun j => V m (0 : Dev nD) (pre0.ref j)

/-- They are the same on every device: there is one. -/
theorem V_pre (c : Dev nD) (j : Fin 1) : V m c (pre0.ref j) = tbl m j := by
  obtain rfl : c = 0 := Subsingleton.elim _ _; rfl

/-- What the launch asks of the table's words. -/
abbrev Ok : Prop := ok0 (F := F) (tbl m)

/-- The words as the launch takes them. -/
abbrev adm (hO : Ok m) : (pcfg0 (F := F)).Adm := ⟨tbl m, hO⟩

abbrev cfgM (hO : Ok m) : Pipeline.Cfg sig Λ₀ := cfg0 (adm m hO)

/-- The table as the body gets it. -/
abbrev tbM0_0 : Memref sig .tc .smem S100 .i32 := Memref.whole main_arg1

abbrev TbBuf0 (c : Dev nD) {S : Shape} {e : EltTy} (M : Memref sig .tc .smem S e) : Type := Buf (Elt F) (M.view.loc (c : Thread nD τ))

/-- Half of the table, held by the body. -/
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- A buffer that is none of the call's arrays and that the last reshape does not write ends as the call found it. -/
theorem tail_kept (hO : Ok m) (dats : (p : Fin _) → (c : Dev nD) → Dat τ (Elt F) Unit ℕ (UR sig nD τ) ℕ ((Pipeline.pin pcfgs fun _ => adm m hO) p) c) (c : Dev nD)
    {b : Ref sig .tc} (hb : b ≠ main_v4) (hw : ∀ w, Pipeline.arrRef spec0 w ≠ b) :
    Pipeline.afterTail pcfgs (fun _ => adm m hO) dats 0 (V0 m) [hostOps1] c b = V m c b := by
  unfold Pipeline.afterTail
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) :=
  (tail_kept m hO dats c (by decide) (by exact (by decide : ∀ w, Pipeline.arrRef spec0 w ≠ main_arg1))).trans (V_main_arg1 m c)

theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) :=
  (tail_kept m hO dats c (by decide) (by exact (by decide : ∀ w, Pipeline.arrRef spec0 w ≠ main_arg2))).trans (V_main_arg2 m c)

theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) :=
  (tail_kept m hO dats c (by decide) (by exact (by decide : ∀ w, Pipeline.arrRef spec0 w ≠ main_arg3))).trans (V_main_arg3 m c)

theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) :=
  (tail_kept m hO dats c (by decide) (by exact (by decide : ∀ w, Pipeline.arrRef spec0 w ≠ main_arg4))).trans (V_main_arg4 m c)

/-- Window `w`'s block at point `t`, of its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! A staging buffer of an input holds its block, whether the point fetched it or an earlier one did. -/

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! The branch that computes the heads is taken at the last point. -/

abbrev cond0_10 (i : grid0.Coords) : Prop := k0_cond11 i = 1#1

theorem hcond0_10 : ∀ t : Fin grid0.N, cond0_10 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_10, k0_cond11, e0]
    word_cmp
   : ∀ t : Fin grid0.N, cond0_10 (grid0.coords t) ↔ t.val % 10 = 9)

/-! No input is idle. -/

theorem liveAt0_0 (hO : Ok m) : ∀ t : Fin (cfgM m hO).N, (cfgM m hO).idle 0 (grid0.coords t) = false :=
  (fun _ => rfl : ∀ t : Fin grid0.N, idle0 0 (grid0.coords t) = false)

theorem liveAt0_1 (hO : Ok m) : ∀ t : Fin (cfgM m hO).N, (cfgM m hO).idle 1 (grid0.coords t) = false :=
  (fun _ => rfl : ∀ t : Fin grid0.N, idle0 1 (grid0.coords t) = false)

theorem liveAt0_2 (hO : Ok m) : ∀ t : Fin (cfgM m hO).N, (cfgM m hO).idle 2 (grid0.coords t) = false :=
  (fun _ => rfl : ∀ t : Fin grid0.N, idle0 2 (grid0.coords t) = false)

theorem liveAt0_3 (hO : Ok m) : ∀ t : Fin (cfgM m hO).N, (cfgM m hO).idle 3 (grid0.coords t) = false :=
  (fun _ => rfl : ∀ t : Fin grid0.N, idle0 3 (grid0.coords t) = false)

theorem liveAt0_4 (hO : Ok m) : ∀ t : Fin (cfgM m hO).N, (cfgM m hO).idle 4 (grid0.coords t) = false :=
  (fun _ => rfl : ∀ t : Fin grid0.N, idle0 4 (grid0.coords t) = false)

theorem liveAt0_5 (hO : Ok m) : ∀ t : Fin (cfgM m hO).N, (cfgM m hO).idle 5 (grid0.coords t) = false :=
  (fun _ => rfl : ∀ t : Fin grid0.N, idle0 5 (grid0.coords t) = false)

theorem liveAt0_6 (hO : Ok m) : ∀ t : Fin (cfgM m hO).N, (cfgM m hO).idle 6 (grid0.coords t) = false :=
  (fun _ => rfl : ∀ t : Fin grid0.N, idle0 6 (grid0.coords t) = false)

theorem liveAt0_7 (hO : Ok m) : ∀ t : Fin (cfgM m hO).N, (cfgM m hO).idle 7 (grid0.coords t) = false :=
  (fun _ => rfl : ∀ t : Fin grid0.N, idle0 7 (grid0.coords t) = false)

theorem liveAt0_8 (hO : Ok m) : ∀ t : Fin (cfgM m hO).N, (cfgM m hO).idle 8 (grid0.coords t) = false :=
  (fun _ => rfl : ∀ t : Fin grid0.N, idle0 8 (grid0.coords t) = false)

theorem liveAt0_9 (hO : Ok m) : ∀ t : Fin (cfgM m hO).N, (cfgM m hO).idle 9 (grid0.coords t) = false :=
  (fun _ => rfl : ∀ t : Fin grid0.N, idle0 9 (grid0.coords t) = false)

theorem liveAt0_10 (hO : Ok m) : ∀ t : Fin (cfgM m hO).N, (cfgM m hO).idle 10 (grid0.coords t) = false :=
  (fun _ => rfl : ∀ t : Fin grid0.N, idle0 10 (grid0.coords t) = false)

theorem liveAt0_11 (hO : Ok m) : ∀ t : Fin (cfgM m hO).N, (cfgM m hO).idle 11 (grid0.coords t) = false :=
  (fun _ => rfl : ∀ t : Fin grid0.N, idle0 11 (grid0.coords t) = false)

theorem liveAt0_12 (hO : Ok m) : ∀ t : Fin (cfgM m hO).N, (cfgM m hO).idle 12 (grid0.coords t) = false :=
  (fun _ => rfl : ∀ t : Fin grid0.N, idle0 12 (grid0.coords t) = false)

/-! The staging buffers at a point, and the two scratch buffers. -/

abbrev ms0_0 (hO : Ok m) (t : Fin (cfgM m hO).N) : Memref sig .tc .vmem S10x1000x128 .f32 := spec0_0.stage ((cfgM m hO).slots t 0)
abbrev ms0_1 (hO : Ok m) (t : Fin (cfgM m hO).N) : Memref sig .tc .vmem S1x100 .f32 := spec0_1.stage ((cfgM m hO).slots t 1)
abbrev ms0_2 (hO : Ok m) (t : Fin (cfgM m hO).N) : Memref sig .tc .vmem S1x100 .f32 := spec0_2.stage ((cfgM m hO).slots t 2)
abbrev ms0_3 (hO : Ok m) (t : Fin (cfgM m hO).N) : Memref sig .tc .vmem S256 .f32 := spec0_3.stage ((cfgM m hO).slots t 3)
abbrev ms0_4 (hO : Ok m) (t : Fin (cfgM m hO).N) : Memref sig .tc .vmem S1 .f32 := spec0_4.stage ((cfgM m hO).slots t 4)
abbrev ms0_5 (hO : Ok m) (t : Fin (cfgM m hO).N) : Memref sig .tc .vmem S128x128 .f32 := spec0_5.stage ((cfgM m hO).slots t 5)
abbrev ms0_6 (hO : Ok m) (t : Fin (cfgM m hO).N) : Memref sig .tc .vmem S128 .f32 := spec0_6.stage ((cfgM m hO).slots t 6)
abbrev ms0_7 (hO : Ok m) (t : Fin (cfgM m hO).N) : Memref sig .tc .vmem S128x128 .f32 := spec0_7.stage ((cfgM m hO).slots t 7)
abbrev ms0_8 (hO : Ok m) (t : Fin (cfgM m hO).N) : Memref sig .tc .vmem S128 .f32 := spec0_8.stage ((cfgM m hO).slots t 8)
abbrev ms0_9 (hO : Ok m) (t : Fin (cfgM m hO).N) : Memref sig .tc .vmem S1x128 .f32 := spec0_9.stage ((cfgM m hO).slots t 9)
abbrev ms0_10 (hO : Ok m) (t : Fin (cfgM m hO).N) : Memref sig .tc .vmem S128 .f32 := spec0_10.stage ((cfgM m hO).slots t 10)
abbrev ms0_11 (hO : Ok m) (t : Fin (cfgM m hO).N) : Memref sig .tc .vmem S1x128 .f32 := spec0_11.stage ((cfgM m hO).slots t 11)
abbrev ms0_12 (hO : Ok m) (t : Fin (cfgM m hO).N) : Memref sig .tc .vmem S128 .f32 := spec0_12.stage ((cfgM m hO).slots t 12)
abbrev ms0_13 (hO : Ok m) (t : Fin (cfgM m hO).N) : Memref sig .tc .vmem S1x100 .f32 := spec0_13.stage ((cfgM m hO).slots t 13)

abbrev scM0_0 : Memref sig .tc .vmem S100x128 .f32 := Memref.whole cc0_scratch0
abbrev scM0_1 : Memref sig .tc .vmem S100x128 .f32 := Memref.whole cc0_scratch1

/-- The body's scratch between points: two buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Value

end
-- ==== Proof.Rows.lean ====
module

public import proofs.«01_k».proof.Proof.Body
public import proofs.«01_k».proof.Proof.Kit
public import Idealize.ShloMosaic.Lib.PointwiseCore

/-! What the stores of one branch leave in the two scratch arrays, for any branch.

A scratch array is described by the rows that already hold their last value. One copied row adds one row to them, and a branch
adds ten. -/

@[expose] public section

set_option maxRecDepth 16384

noncomputable section

namespace Cert.Kernel.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

section Steps

variable (c : Dev nD) (E : Set ℕ) {cs : CoreSpace} {s : Shape} {e : EltTy} {M : Memref sig .tc cs s e}

/-- A load of a memref that is owned: the program goes on with what the memref holds under the rectangle. -/
theorem load_owned (Q : PUnit.{1} → sProp 𝕄) {q : PosShare TreeShare} {X : s.Idx → Elt F e} {r : Rect s} {hl : M.view.LoadsAt r.toLoadRect}
    (k : (r.shape.Idx → Elt F e) → Prog (TpuEff nD τ sig (Elt F) Λ₀ .tc) PUnit) :
    owns (c : Thread nD τ) M q X
      ⊢ iprop((owns (c : Thread nD τ) M q X -∗ wp frame (wpE (defs₀ (F := F)) Variants.none c none) E (k fun x => X (r.emb x)) Q)
        -∗ wp frame (wpE (defs₀ (F := F)) Variants.none c none) E (Prog.lift (.load M r.toLoadRect hl) >>= k) Q) := by
  unfold owns
  iintro ⟨%f, %hf, H⟩ Hk
  subst hf
  iapply (wp_load Variants.none (c : Thread nD τ) none E (defs := defs₀ (F := F)) (m := M) (r := r.toLoadRect) (hl := hl) (k := k) (Q := Q)
    (S := M.view.set) (q := q) (f := f) (View.setOn_subset_set _ _)) $$ H
  iintro H
  iapply Hk
  iexists f
  isplitr
  · ipureintro; rfl
  · iexact H

/-- A store into a memref that is owned: afterwards it holds what was stored under the rectangle, and the rest as before. -/
theorem store_owned (Q : PUnit.{1} → sProp 𝕄) {X : s.Idx → Elt F e} {r : Rect s} {w : r.shape.Idx → Elt F e} {hx : (M.access r).Stores Finset.univ}
    {hm : Finset.univ = Finset.univ ∨ ∀ a, r.stride a = 1} (k : PUnit → Prog (TpuEff nD τ sig (Elt F) Λ₀ .tc) PUnit) :
    owns (c : Thread nD τ) M fullShare X
      ⊢ iprop((∀ Y, ⌜(∀ x, Y (r.emb x) = w x) ∧ ∀ y, y ∉ r.set → Y y = X y⌝ -∗ owns (c : Thread nD τ) M fullShare Y
          -∗ wp frame (wpE (defs₀ (F := F)) Variants.none c none) E (k ⟨⟩) Q)
        -∗ wp frame (wpE (defs₀ (F := F)) Variants.none c none) E (Prog.lift (.store M r w Finset.univ hx hm) >>= k) Q) := by
  unfold owns
  iintro ⟨%f, %hf, H⟩ Hk
  subst hf
  iapply (wp_store Variants.none (c : Thread nD τ) none E (defs := defs₀ (F := F)) (m := M) (r := r) (w := w) (hx := hx) (hm := hm) (k := k) (Q := Q)
    (S := M.view.set) (f := f) (Memref.setOn_access_subset M r Finset.univ)) $$ H
  iintro H
  iapply Hk $$ %(M.view.read (Elt F) ((M.access r).write (Elt F) f w Finset.univ))
  · ipureintro
    refine ⟨fun x => View.read_slice_write_emb r f w (Finset.mem_univ x), fun y hy => ?_⟩
    exact View.read_slice_write_of_not_mem r f w Finset.univ (by rwa [Rect.map_emb_univ])
  iexists _
  isplitr
  · ipureintro; rfl
  · iexact H

/-- A read of one word of a table that is owned: the program goes on with that word. -/
theorem word_owned (Q : PUnit.{1} → sProp 𝕄) {N : Memref sig .tc .smem S100 .i32} {q : PosShare TreeShare} {X : S100.Idx → BitVec 32} {r : ℕ} {hr : r < 100}
    (k : BitVec 32 → Prog (TpuEff nD τ sig (Elt F) Λ₀ .tc) PUnit) :
    (owns (c : Thread nD τ) N q (X : S100.Idx → Elt F .i32) : sProp 𝕄)
      ⊢ iprop((owns (c : Thread nD τ) N q (X : S100.Idx → Elt F .i32)
          -∗ wp frame (wpE (defs₀ (F := F)) Variants.none c none) E (k (X (ix1 ⟨r, hr⟩))) Q)
        -∗ wp frame (wpE (defs₀ (F := F)) Variants.none c none) E
          (smemLoad N (Rect.unit (s := S100) ![r] S1.size (inb_word hr)) numel1_S1 rfl >>= k) Q) := by
  unfold owns
  iintro ⟨%f, %hf, H⟩ Hk
  iapply (wp_smemLoadElt Variants.none (c : Thread nD τ) none E (defs := defs₀ (F := F)) (m := N)
    (r := Rect.unit (s := S100) ![r] S1.size (inb_word hr)) (hw := View.loads_smem_one rfl numel1_S1)
    (x := Shape.Idx.first (numel1_S1.symm ▸ Nat.one_pos)) (k := k) (Q := Q)
    (S := N.view.set) (q := q) (f := f) (Memref.setOn_access_subset N _ Finset.univ)) $$ H
  iintro H
  have e : (N.access (Rect.unit (s := S100) ![r] S1.size (inb_word hr))).read (Elt F) f (Shape.Idx.first (numel1_S1.symm ▸ Nat.one_pos))
      = X (ix1 ⟨r, hr⟩) := by
    subst hf
    refine congrArg (N.view.read (Elt F) f) (funext fun a => Fin.ext ?_)
    fin_cases a
    rfl
  rw [e]
  iapply Hk
  iexists f
  isplitr
  · ipureintro; exact hf
  · iexact H

end Steps

/-- Rows `0` to `n - 1` of `f` are those of `G`. -/
def Filled (n : ℕ) (f G : S100x128.Idx → F .f32) : Prop := ∀ y : S100x128.Idx, (y 0).val < n → f y = G y

theorem emb_row {r : ℕ} (hr : r < 100) (l : Fin 128) :
    (Rect.unit (s := S100x128) ![r, 0] S1x128.size (inb_row hr)).emb (ix2 (0 : Fin 1) l) = ix2 (⟨r, hr⟩ : Fin 100) l := by
  funext a
  apply Fin.ext
  fin_cases a
  · show r + 1 * 0 = r
    omega
  · show 0 + 1 * l.val = l.val
    omega

theorem not_mem_row {r : ℕ} (hr : r < 100) (y : S100x128.Idx) (h : (y 0).val < r) :
    y ∉ (Rect.unit (s := S100x128) ![r, 0] S1x128.size (inb_row hr)).set := by
  rw [LoadRect.mem_set]
  intro h'
  obtain ⟨j, -, hj⟩ := h' 0
  have : (y 0).val = r + 1 * j := hj
  omega

theorem emb_rows {r : ℕ} (hr : r + 10 ≤ 100) (g : Fin 10) (l : Fin 128) :
    (Rect.unit (s := S100x128) ![r, 0] S10x128.size (inb_rows hr)).emb (ix2 g l) = ix2 (⟨r + g.val, by omega⟩ : Fin 100) l := by
  funext a
  apply Fin.ext
  fin_cases a
  · show r + 1 * g.val = r + g.val
    omega
  · show 0 + 1 * l.val = l.val
    omega

/-- What a copied row is stored as, read at a lane. -/
theorem row_apply (w : Vec F S1x1x128 .f32) (l : Fin 128) :
    shapeCast S1x128 (shapeCast S128 w shapeCasts_S1x1x128_S128) shapeCasts_S128_S1x128 (ix2 (0 : Fin 1) l) = w (ix3 (0 : Fin 1) (0 : Fin 1) l) := by
  pointwise

theorem not_mem_rows {r : ℕ} (hr : r + 10 ≤ 100) (y : S100x128.Idx) (h : (y 0).val < r) :
    y ∉ (Rect.unit (s := S100x128) ![r, 0] S10x128.size (inb_rows hr)).set := by
  rw [LoadRect.mem_set]
  intro h'
  obtain ⟨j, -, hj⟩ := h' 0
  have : (y 0).val = r + 1 * j := hj
  omega

/-- Row `r` of `G` is the row of graph `g` of the block `x` that word `r` of the table names. -/
def RowIs (X : S100.Idx → BitVec 32) (x : S10x1000x128.Idx → F .f32) (G : S100x128.Idx → F .f32) (r g : ℕ) : Prop :=
  ∀ (hr : r < 100) (hg : g < 10) (hv : (X (ix1 ⟨r, hr⟩)).toNat < 1000) (l : Fin 128),
    G (ix2 ⟨r, hr⟩ l) = x (ix3 ⟨g, hg⟩ ⟨(X (ix1 ⟨r, hr⟩)).toNat, hv⟩ l)

theorem copyRows_zero (b : BitVec 1) (hb : b = 1#1) (arg1 : Memref sig .tc .smem S100 .i32) (arg2 : Memref sig .tc .vmem S10x1000x128 .f32)
    (arg17 : Memref sig .tc .vmem S100x128 .f32) (r₀ : ℕ) (hr₀ : r₀ + 10 ≤ 100) (K : Prog (TpuEff nD τ sig (Elt F) Λ₀ .tc) PUnit)
    (hn : 0 ≤ 10) : copyRows b hb arg1 arg2 arg17 r₀ hr₀ K 0 hn = K := rfl

theorem copyRows_succ (b : BitVec 1) (hb : b = 1#1) (arg1 : Memref sig .tc .smem S100 .i32) (arg2 : Memref sig .tc .vmem S10x1000x128 .f32)
    (arg17 : Memref sig .tc .vmem S100x128 .f32) (r₀ : ℕ) (hr₀ : r₀ + 10 ≤ 100) (K : Prog (TpuEff nD τ sig (Elt F) Λ₀ .tc) PUnit)
    (n : ℕ) (hn : n + 1 ≤ 10) : copyRows b hb arg1 arg2 arg17 r₀ hr₀ K (n + 1) hn
      = copyRow b hb arg1 arg2 arg17 (r₀ + (9 - n)) (9 - n) (by omega) (copyRows b hb arg1 arg2 arg17 r₀ hr₀ K n (Nat.le_of_succ_le hn)) := rfl

section Branch

variable (c : Dev nD) (E : Set ℕ) {q q' : PosShare TreeShare} (b : BitVec 1) (hb : b = 1#1)

  (arg1 : Memref sig .tc .smem S100 .i32) (arg2 : Memref sig .tc .vmem S10x1000x128 .f32)
  (arg16 arg17 : Memref sig .tc .vmem S100x128 .f32)
  (X : S100.Idx → BitVec 32) (hX : ∀ i, (X i).toNat < 1000) (x : S10x1000x128.Idx → F .f32) (G : S100x128.Idx → F .f32)

include hX in
/-- One copied row, where the words lie in the range: one more row of the scratch holds its last value. -/
theorem copyRow_wp (Q : PUnit.{1} → sProp 𝕄) (r g : ℕ) (hr : r < 100) (hg : g < 10) (hG : RowIs X x G r g) (K : Prog (TpuEff nD τ sig (Elt F) Λ₀ .tc) PUnit)
    (f : S100x128.Idx → F .f32) (hf : Filled r f G) :
    iprop(owns (c : Thread nD τ) arg1 q (X : S100.Idx → Elt F .i32) ∗ owns (c : Thread nD τ) arg2 q' (x : S10x1000x128.Idx → Elt F .f32)
        ∗ owns (c : Thread nD τ) arg17 fullShare (f : S100x128.Idx → Elt F .f32)
        ∗ (∀ f', ⌜Filled (r + 1) f' G⌝ -∗ owns (c : Thread nD τ) arg1 q (X : S100.Idx → Elt F .i32)
            -∗ owns (c : Thread nD τ) arg2 q' (x : S10x1000x128.Idx → Elt F .f32)
            -∗ owns (c : Thread nD τ) arg17 fullShare (f' : S100x128.Idx → Elt F .f32)
            -∗ wp frame (wpE (defs₀ (F := F)) Variants.none c none) E K Q))
      ⊢ (wp frame (wpE (defs₀ (F := F)) Variants.none c none) E (copyRow b hb arg1 arg2 arg17 r g hr K) Q : sProp 𝕄) := by
  unfold copyRow
  iintro ⟨H1, H2, H3, Hk⟩
  iapply (word_owned (F := F) c E Q (N := arg1) (X := X) (r := r) (hr := hr)) $$ H1
  iintro H1
  have hc : chk b g (X (ix1 ⟨r, hr⟩)) := by
    intro _ a
    fin_cases a
    · exact Nat.succ_le_of_lt hg
    · exact Nat.succ_le_of_lt (hX _)
    · exact le_refl 128
  iapply (wp_assume Variants.none (c : Thread nD τ) none E (defs := defs₀ (F := F)) (d := chk.dec b g _) hc)
  iapply (load_owned (F := F) c E Q (M := arg2)) $$ H2
  iintro H2
  iapply (load_owned (F := F) c E Q (M := arg17)) $$ H3
  iintro H3
  iapply (store_owned (F := F) c E Q (M := arg17)) $$ H3
  iintro %f' %hf' H3
  iapply Hk $$ %f' [] H1 H2 H3
  ipureintro
  intro y hy
  obtain ⟨a, l, rfl⟩ : ∃ (a : Fin 100) (l : Fin 128), y = ix2 a l := ⟨y 0, y 1, eq_ix2 y⟩
  rcases Nat.lt_succ_iff_lt_or_eq.mp hy with h | h
  · exact (hf'.2 _ (not_mem_row hr _ h)).trans (hf _ h)
  · obtain rfl : a = ⟨r, hr⟩ := Fin.ext h
    refine (congrArg f' (emb_row hr l)).symm.trans ((hf'.1 _).trans ((row_apply _ l).trans (Eq.trans (congrArg x ?_) (hG hr hg (hX _) l).symm)))
    funext a
    apply Fin.ext
    fin_cases a
    · show g + 1 * 0 = g
      omega
    · show (X (ix1 ⟨r, hr⟩)).toNat + 1 * 0 = (X (ix1 ⟨r, hr⟩)).toNat
      omega
    · show 0 + 1 * l.val = l.val
      omega

include hX in
/-- The last `n` copied rows of a branch. -/
theorem copyRows_wp (Q : PUnit.{1} → sProp 𝕄) (r₀ : ℕ) (hr₀ : r₀ + 10 ≤ 100) (hG : ∀ g < 10, RowIs X x G (r₀ + g) g)
    (K : Prog (TpuEff nD τ sig (Elt F) Λ₀ .tc) PUnit) (n : ℕ) (hn : n ≤ 10) (f : S100x128.Idx → F .f32) (hf : Filled (r₀ + (10 - n)) f G) :
    iprop(owns (c : Thread nD τ) arg1 q (X : S100.Idx → Elt F .i32) ∗ owns (c : Thread nD τ) arg2 q' (x : S10x1000x128.Idx → Elt F .f32)
        ∗ owns (c : Thread nD τ) arg17 fullShare (f : S100x128.Idx → Elt F .f32)
        ∗ (∀ f', ⌜Filled (r₀ + 10) f' G⌝ -∗ owns (c : Thread nD τ) arg1 q (X : S100.Idx → Elt F .i32)
            -∗ owns (c : Thread nD τ) arg2 q' (x : S10x1000x128.Idx → Elt F .f32)
            -∗ owns (c : Thread nD τ) arg17 fullShare (f' : S100x128.Idx → Elt F .f32)
            -∗ wp frame (wpE (defs₀ (F := F)) Variants.none c none) E K Q))
      ⊢ (wp frame (wpE (defs₀ (F := F)) Variants.none c none) E (copyRows b hb arg1 arg2 arg17 r₀ hr₀ K n hn) Q : sProp 𝕄) := by
  induction n generalizing f with
  | zero =>
    rw [copyRows_zero]
    iintro ⟨H1, H2, H3, Hk⟩
    iapply Hk $$ %f [] H1 H2 H3
    ipureintro
    exact hf
  | succ n ih =>
    rw [copyRows_succ]
    iintro ⟨H1, H2, H3, Hk⟩
    have e : 10 - (n + 1) = 9 - n := by omega
    have hg : 9 - n < 10 := by omega
    have hr : r₀ + (9 - n) < 100 := by omega
    iapply (copyRow_wp c E b hb arg1 arg2 arg17 X hX x G Q (r₀ + (9 - n)) (9 - n) hr hg (hG (9 - n) hg) (copyRows b hb arg1 arg2 arg17 r₀ hr₀ K n (Nat.le_of_succ_le hn)) f (e ▸ hf))
    isplitl [H1]
    · iexact H1
    isplitl [H2]
    · iexact H2
    isplitl [H3]
    · iexact H3
    iintro %f' %hf' H1 H2 H3
    have e' : r₀ + (9 - n) + 1 = r₀ + (10 - n) := by omega
    iapply (ih (Nat.le_of_succ_le hn) f' (e' ▸ hf'))
    isplitl [H1]
    · iexact H1
    isplitl [H2]
    · iexact H2
    isplitl [H3]
    · iexact H3
    iexact Hk

include hX in
/-- A branch: ten more rows of each scratch array hold their last value. -/
theorem branch_wp (Q : PUnit.{1} → sProp 𝕄) (r₀ : ℕ) (hr₀ : r₀ + 10 ≤ 100) (hG : ∀ g < 10, RowIs X x G (r₀ + g) g)
    (v : FVec F S10x128 .f32) (A : S100x128.Idx → F .f32)
    (hA : ∀ (g : Fin 10) (l : Fin 128), A (ix2 (⟨r₀ + g.val, by omega⟩ : Fin 100) l) = v (ix2 g l))
    (K : Prog (TpuEff nD τ sig (Elt F) Λ₀ .tc) PUnit) (f₀ f₁ : S100x128.Idx → F .f32) (hf₀ : Filled r₀ f₀ A) (hf₁ : Filled r₀ f₁ G) :
    iprop(owns (c : Thread nD τ) arg1 q (X : S100.Idx → Elt F .i32) ∗ owns (c : Thread nD τ) arg2 q' (x : S10x1000x128.Idx → Elt F .f32)
        ∗ owns (c : Thread nD τ) arg16 fullShare (f₀ : S100x128.Idx → Elt F .f32)
        ∗ owns (c : Thread nD τ) arg17 fullShare (f₁ : S100x128.Idx → Elt F .f32)
        ∗ (∀ f₀' f₁', ⌜Filled (r₀ + 10) f₀' A ∧ Filled (r₀ + 10) f₁' G⌝ -∗ owns (c : Thread nD τ) arg1 q (X : S100.Idx → Elt F .i32)
            -∗ owns (c : Thread nD τ) arg2 q' (x : S10x1000x128.Idx → Elt F .f32)
            -∗ owns (c : Thread nD τ) arg16 fullShare (f₀' : S100x128.Idx → Elt F .f32)
            -∗ owns (c : Thread nD τ) arg17 fullShare (f₁' : S100x128.Idx → Elt F .f32)
            -∗ wp frame (wpE (defs₀ (F := F)) Variants.none c none) E K Q))
      ⊢ (wp frame (wpE (defs₀ (F := F)) Variants.none c none) E (branch b hb arg1 arg2 arg16 arg17 r₀ hr₀ v K) Q : sProp 𝕄) := by
  unfold branch
  iintro ⟨H1, H2, H0, H3, Hk⟩
  iapply (load_owned (F := F) c E Q (M := arg16)) $$ H0
  iintro H0
  iapply (store_owned (F := F) c E Q (M := arg16)) $$ H0
  iintro %f₀' %hf₀' H0
  iapply (copyRows_wp c E b hb arg1 arg2 arg17 X hX x G Q r₀ hr₀ hG K 10 (le_refl 10) f₁ (by simpa using hf₁))
  isplitl [H1]
  · iexact H1
  isplitl [H2]
  · iexact H2
  isplitl [H3]
  · iexact H3
  iintro %f₁' %hf₁' H1 H2 H3
  iapply Hk $$ %f₀' %f₁' [] H1 H2 H0 H3
  ipureintro
  refine ⟨?_, hf₁'⟩
  intro y hy
  obtain ⟨a, l, rfl⟩ : ∃ (a : Fin 100) (l : Fin 128), y = ix2 a l := ⟨y 0, y 1, eq_ix2 y⟩
  by_cases h : a.val < r₀
  · exact (hf₀'.2 _ (not_mem_rows hr₀ _ h)).trans (hf₀ _ h)
  · have hy' : a.val < r₀ + 10 := hy
    obtain ⟨g, hg⟩ : ∃ g : Fin 10, a.val = r₀ + g.val := ⟨⟨a.val - r₀, by omega⟩, by show a.val = r₀ + (a.val - r₀); omega⟩
    have hlt : r₀ + g.val < 100 := by omega
    obtain rfl : a = ⟨r₀ + g.val, hlt⟩ := Fin.ext hg
    refine (congrArg f₀' (emb_rows hr₀ g l)).symm.trans ((hf₀'.1 _).trans (Eq.trans ?_ (hA g l).symm))
    exact congrFun (shapeCast_self v shapeCasts_S10x128_S10x128) _

end Branch

theorem steps_succ (i : grid0.Coords) (arg1 : Memref sig .tc .smem S100 .i32) (arg2 : Memref sig .tc .vmem S10x1000x128 .f32)
    (arg16 arg17 : Memref sig .tc .vmem S100x128 .f32) (v : FVec F S10x128 .f32) (K : Prog (TpuEff nD τ sig (Elt F) Λ₀ .tc) PUnit)
    (n : ℕ) (hn : n + 1 ≤ 10) : steps i arg1 arg2 arg16 arg17 v K (n + 1) hn
      = step (BitVec.ofNat 32 (9 - n)) i arg1 arg2 arg16 arg17 (10 * (9 - n)) (by omega) v
          (steps i arg1 arg2 arg16 arg17 v K n (Nat.le_of_succ_le hn)) := rfl

/-- At grid point `t` the branches are branch `t`. -/
theorem steps_eq (i : grid0.Coords) (arg1 : Memref sig .tc .smem S100 .i32) (arg2 : Memref sig .tc .vmem S10x1000x128 .f32)
    (arg16 arg17 : Memref sig .tc .vmem S100x128 .f32) (v : FVec F S10x128 .f32) (K : Prog (TpuEff nD τ sig (Elt F) Λ₀ .tc) PUnit)
    (t : ℕ) (ht : t < 10) (hc : ∀ k < 10, cond (BitVec.ofNat 32 k) i = 1#1 ↔ k = t) :
    ∀ n (hn : n ≤ 10), steps i arg1 arg2 arg16 arg17 v K n hn
      = if 10 ≤ t + n then branch _ ((hc t ht).2 rfl) arg1 arg2 arg16 arg17 (10 * t) (by omega) v K else K
  | 0, hn => by rw [if_neg (by omega)]; rfl
  | n + 1, hn => by
    rw [steps_succ, step]
    rw [steps_eq i arg1 arg2 arg16 arg17 v K t ht hc n (by omega)]
    by_cases h : 9 - n = t
    · subst h
      rw [dif_pos ((hc _ ht).2 rfl), if_neg (by omega), if_pos (by omega)]
    · rw [dif_neg fun h' => h ((hc _ (by omega)).1 h')]
      by_cases h' : 10 ≤ t + n
      · rw [if_pos h', if_pos (by omega)]
      · rw [if_neg h', if_neg (by omega)]

/-- The conditions at a grid point: the coordinate is the point's number. -/
theorem cond_iff : ∀ t : Fin grid0.N, ∀ k < 10, cond (BitVec.ofNat 32 k) (grid0.coords t) = 1#1 ↔ k = t.val := by
  decide +kernel

end Cert.Kernel.Value
-- ==== Proof.Last.lean ====
module

public import proofs.«01_k».proof.Proof.Rows

/-! What the last grid point stores in the output: one array, computed from the two scratch arrays and the weights. -/

@[expose] public section

set_option maxRecDepth 16384

noncomputable section

namespace Cert.Kernel.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-- The output, from the row sums `A`, the copied rows `G`, and what the eleven other inputs of the last point hold. -/
def outOf (A G : S100x128.Idx → F .f32) (x3 x4 : S1x100.Idx → F .f32) (x5 : S256.Idx → F .f32) (x6 : S1.Idx → F .f32)
    (x7 : S128x128.Idx → F .f32) (x8 : S128.Idx → F .f32) (x9 : S128x128.Idx → F .f32) (x10 : S128.Idx → F .f32)
    (x11 : S1x128.Idx → F .f32) (x12 : S128.Idx → F .f32) (x13 : S1x128.Idx → F .f32) (x14 : S128.Idx → F .f32) : S1x100.Idx → F .f32 :=
  k0_pay5 (k0_pay106 x4) (k0_pay107 x5) (k0_pay108 x5) (k0_pay109 x12) (k0_pay110 x14) x13 (k0_pay111 A x8 x7) (k0_pay112 G x3 x10 x11 x9) x6

/-- The rectangle that starts at zero and has the shape's size holds every index at its place. -/
theorem emb_all {s : Shape} (o : Fin s.rank → ℕ) (ho : ∀ a, o a = 0) (h : ∀ a, o a + s.size a ≤ s.size a) (x : s.Idx) :
    (Rect.unit (s := s) o s.size h).emb x = x := by
  funext a
  apply Fin.ext
  show o a + 1 * (x a).val = (x a).val
  rw [ho a]
  omega

section All

variable (c : Dev nD) (E : Set ℕ) {cs : CoreSpace} {s : Shape} {e : EltTy} {M : Memref sig .tc cs s e}

/-- A load of all that a memref holds. -/
theorem load_all (Q : PUnit.{1} → sProp 𝕄) {q : PosShare TreeShare} {X : s.Idx → Elt F e} {o : Fin s.rank → ℕ} (ho : ∀ a, o a = 0)
    {h : ∀ a, o a + s.size a ≤ s.size a} {hl : M.view.LoadsAt (Rect.unit (s := s) o s.size h).toLoadRect}
    (k : (s.Idx → Elt F e) → Prog (TpuEff nD τ sig (Elt F) Λ₀ .tc) PUnit) :
    owns (c : Thread nD τ) M q X
      ⊢ iprop((owns (c : Thread nD τ) M q X -∗ wp frame (wpE (defs₀ (F := F)) Variants.none c none) E (k X) Q)
        -∗ wp frame (wpE (defs₀ (F := F)) Variants.none c none) E (Prog.lift (.load M (Rect.unit (s := s) o s.size h).toLoadRect hl) >>= k) Q) := by
  have e : (fun x : s.Idx => X ((Rect.unit (s := s) o s.size h).emb x)) = X := funext fun x => congrArg X (emb_all o ho h x)
  have := load_owned (F := F) c E Q (M := M) (q := q) (X := X) (r := Rect.unit (s := s) o s.size h) (hl := hl) k
  rw [show (fun x => X ((Rect.unit (s := s) o s.size h).emb x)) = X from e] at this
  exact this

/-- A store over all that a memref holds. -/
theorem store_all (Q : PUnit.{1} → sProp 𝕄) {X : s.Idx → Elt F e} {o : Fin s.rank → ℕ} (ho : ∀ a, o a = 0) {h : ∀ a, o a + s.size a ≤ s.size a}
    {w : s.Idx → Elt F e} {hx : (M.access (Rect.unit (s := s) o s.size h)).Stores Finset.univ}
    {hm : Finset.univ = Finset.univ ∨ ∀ a, (Rect.unit (s := s) o s.size h).stride a = 1} (k : PUnit → Prog (TpuEff nD τ sig (Elt F) Λ₀ .tc) PUnit) :
    owns (c : Thread nD τ) M fullShare X
      ⊢ iprop((owns (c : Thread nD τ) M fullShare w -∗ wp frame (wpE (defs₀ (F := F)) Variants.none c none) E (k ⟨⟩) Q)
        -∗ wp frame (wpE (defs₀ (F := F)) Variants.none c none) E
            (Prog.lift (.store M (Rect.unit (s := s) o s.size h) w Finset.univ hx hm) >>= k) Q) := by
  iintro H Hk
  iapply (store_owned (F := F) c E Q (M := M)) $$ H
  iintro %Y %hY H
  have e : Y = w := funext fun x => (congrArg Y (emb_all o ho h x)).symm.trans (hY.1 x)
  subst e
  iapply Hk $$ H

end All

theorem zero1 : ∀ a, (![0] : Fin 1 → ℕ) a = 0 := by decide
theorem zero2 : ∀ a, (![0, 0] : Fin 2 → ℕ) a = 0 := by decide
theorem zero3 : ∀ a, (![0, 0, 0] : Fin 3 → ℕ) a = 0 := by decide

set_option maxHeartbeats 1000000 in
/-- The last point loads everything and stores the output. -/
theorem last_wp (c : Dev nD) (E : Set ℕ) (Q : PUnit.{1} → sProp 𝕄) (i : grid0.Coords) (arg1 : Memref sig .tc .smem S100 .i32) (harg1 : arg1.IsWhole) (arg2 : Memref sig .tc .vmem S10x1000x128 .f32) (harg2 : arg2.IsWhole) (arg3 : Memref sig .tc .vmem S1x100 .f32) (harg3 : arg3.IsWhole) (arg4 : Memref sig .tc .vmem S1x100 .f32) (harg4 : arg4.IsWhole) (arg5 : Memref sig .tc .vmem S256 .f32) (harg5 : arg5.IsWhole) (arg6 : Memref sig .tc .vmem S1 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S128 .f32) (harg14 : arg14.IsWhole) (arg15 : Memref sig .tc .vmem S1x100 .f32) (harg15 : arg15.IsWhole) (arg16 : Memref sig .tc .vmem S100x128 .f32) (harg16 : arg16.IsWhole) (arg17 : Memref sig .tc .vmem S100x128 .f32) (harg17 : arg17.IsWhole)
    (A G : S100x128.Idx → F .f32) (x3 x4 : S1x100.Idx → F .f32) (x5 : S256.Idx → F .f32) (x6 : S1.Idx → F .f32)
    (x7 : S128x128.Idx → F .f32) (x8 : S128.Idx → F .f32) (x9 : S128x128.Idx → F .f32) (x10 : S128.Idx → F .f32)
    (x11 : S1x128.Idx → F .f32) (x12 : S128.Idx → F .f32) (x13 : S1x128.Idx → F .f32) (x14 : S128.Idx → F .f32) (x15 : S1x100.Idx → F .f32)
    {q3 q4 q5 q6 q7 q8 q9 q10 q11 q12 q13 q14 q16 q17 : PosShare TreeShare} :
    iprop(owns (c : Thread nD τ) arg3 q3 (x3 : S1x100.Idx → Elt F .f32) ∗ owns (c : Thread nD τ) arg4 q4 (x4 : S1x100.Idx → Elt F .f32)
        ∗ owns (c : Thread nD τ) arg5 q5 (x5 : S256.Idx → Elt F .f32) ∗ owns (c : Thread nD τ) arg6 q6 (x6 : S1.Idx → Elt F .f32)
        ∗ owns (c : Thread nD τ) arg7 q7 (x7 : S128x128.Idx → Elt F .f32) ∗ owns (c : Thread nD τ) arg8 q8 (x8 : S128.Idx → Elt F .f32)
        ∗ owns (c : Thread nD τ) arg9 q9 (x9 : S128x128.Idx → Elt F .f32) ∗ owns (c : Thread nD τ) arg10 q10 (x10 : S128.Idx → Elt F .f32)
        ∗ owns (c : Thread nD τ) arg11 q11 (x11 : S1x128.Idx → Elt F .f32) ∗ owns (c : Thread nD τ) arg12 q12 (x12 : S128.Idx → Elt F .f32)
        ∗ owns (c : Thread nD τ) arg13 q13 (x13 : S1x128.Idx → Elt F .f32) ∗ owns (c : Thread nD τ) arg14 q14 (x14 : S128.Idx → Elt F .f32)
        ∗ owns (c : Thread nD τ) arg15 fullShare (x15 : S1x100.Idx → Elt F .f32)
        ∗ owns (c : Thread nD τ) arg16 q16 (A : S100x128.Idx → Elt F .f32) ∗ owns (c : Thread nD τ) arg17 q17 (G : S100x128.Idx → Elt F .f32)
        ∗ (owns (c : Thread nD τ) arg3 q3 (x3 : S1x100.Idx → Elt F .f32) -∗ owns (c : Thread nD τ) arg4 q4 (x4 : S1x100.Idx → Elt F .f32)
          -∗ owns (c : Thread nD τ) arg5 q5 (x5 : S256.Idx → Elt F .f32) -∗ owns (c : Thread nD τ) arg6 q6 (x6 : S1.Idx → Elt F .f32)
          -∗ owns (c : Thread nD τ) arg7 q7 (x7 : S128x128.Idx → Elt F .f32) -∗ owns (c : Thread nD τ) arg8 q8 (x8 : S128.Idx → Elt F .f32)
          -∗ owns (c : Thread nD τ) arg9 q9 (x9 : S128x128.Idx → Elt F .f32) -∗ owns (c : Thread nD τ) arg10 q10 (x10 : S128.Idx → Elt F .f32)
          -∗ owns (c : Thread nD τ) arg11 q11 (x11 : S1x128.Idx → Elt F .f32) -∗ owns (c : Thread nD τ) arg12 q12 (x12 : S128.Idx → Elt F .f32)
          -∗ owns (c : Thread nD τ) arg13 q13 (x13 : S1x128.Idx → Elt F .f32) -∗ owns (c : Thread nD τ) arg14 q14 (x14 : S128.Idx → Elt F .f32)
          -∗ owns (c : Thread nD τ) arg15 fullShare (outOf A G x3 x4 x5 x6 x7 x8 x9 x10 x11 x12 x13 x14 : S1x100.Idx → Elt F .f32)
          -∗ owns (c : Thread nD τ) arg16 q16 (A : S100x128.Idx → Elt F .f32) -∗ owns (c : Thread nD τ) arg17 q17 (G : S100x128.Idx → Elt F .f32)
          -∗ wp frame (wpE (defs₀ (F := F)) Variants.none c none) E (pure ⟨⟩) Q))
      ⊢ (wp frame (wpE (defs₀ (F := F)) Variants.none c none) E (last (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q : sProp 𝕄) := by
  unfold last k0_part21_skel outOf
  simp only [bind_assoc, pure_bind]
  iintro ⟨H3, H4, H5, H6, H7, H8, H9, H10, H11, H12, H13, H14, H15, H16, H17, Hk⟩
  iapply (load_all (F := F) c E Q (M := arg16) zero2) $$ H16
  iintro H16
  iapply (load_all (F := F) c E Q (M := arg17) zero2) $$ H17
  iintro H17
  iapply (load_all (F := F) c E Q (M := arg3) zero2) $$ H3
  iintro H3
  iapply (load_all (F := F) c E Q (M := arg4) zero2) $$ H4
  iintro H4
  iapply (load_all (F := F) c E Q (M := arg5) zero1) $$ H5
  iintro H5
  iapply (load_all (F := F) c E Q (M := arg5) zero1) $$ H5
  iintro H5
  iapply (load_all (F := F) c E Q (M := arg8) zero1) $$ H8
  iintro H8
  iapply (load_all (F := F) c E Q (M := arg10) zero1) $$ H10
  iintro H10
  iapply (load_all (F := F) c E Q (M := arg12) zero1) $$ H12
  iintro H12
  iapply (load_all (F := F) c E Q (M := arg14) zero1) $$ H14
  iintro H14
  iapply (load_all (F := F) c E Q (M := arg11) zero2) $$ H11
  iintro H11
  iapply (load_all (F := F) c E Q (M := arg13) zero2) $$ H13
  iintro H13
  iapply (load_all (F := F) c E Q (M := arg7) zero2) $$ H7
  iintro H7
  iapply (load_all (F := F) c E Q (M := arg9) zero2) $$ H9
  iintro H9
  iapply (load_all (F := F) c E Q (M := arg6) zero1) $$ H6
  iintro H6
  iapply (load_all (F := F) c E Q (M := arg15) zero2) $$ H15
  iintro H15
  iapply (store_all (F := F) c E Q (M := arg15) zero2) $$ H15
  iintro H15
  iapply Hk $$ H3 H4 H5 H6 H7 H8 H9 H10 H11 H12 H13 H14 H15 H16 H17

end Cert.Kernel.Value
-- ==== Proof.Point.lean ====
module

public import proofs.«01_k».proof.Proof.Last

/-! One grid point: what the body leaves, given what it finds. -/

@[expose] public section

set_option maxRecDepth 16384

noncomputable section

namespace Cert.Kernel.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

set_option maxHeartbeats 1000000 in
/-- At grid point `t` the body adds ten rows to each scratch array, and at the last point it stores the output. -/
theorem body_wp (c : Dev nD) (E : Set ℕ) (Q : PUnit.{1} → sProp 𝕄) (t : Fin grid0.N) (arg1 : Memref sig .tc .smem S100 .i32) (harg1 : arg1.IsWhole) (arg2 : Memref sig .tc .vmem S10x1000x128 .f32) (harg2 : arg2.IsWhole) (arg3 : Memref sig .tc .vmem S1x100 .f32) (harg3 : arg3.IsWhole) (arg4 : Memref sig .tc .vmem S1x100 .f32) (harg4 : arg4.IsWhole) (arg5 : Memref sig .tc .vmem S256 .f32) (harg5 : arg5.IsWhole) (arg6 : Memref sig .tc .vmem S1 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x128 .f32) (harg11 : arg11.IsWhole) (arg12 : Memref sig .tc .vmem S128 .f32) (harg12 : arg12.IsWhole) (arg13 : Memref sig .tc .vmem S1x128 .f32) (harg13 : arg13.IsWhole) (arg14 : Memref sig .tc .vmem S128 .f32) (harg14 : arg14.IsWhole) (arg15 : Memref sig .tc .vmem S1x100 .f32) (harg15 : arg15.IsWhole) (arg16 : Memref sig .tc .vmem S100x128 .f32) (harg16 : arg16.IsWhole) (arg17 : Memref sig .tc .vmem S100x128 .f32) (harg17 : arg17.IsWhole)
    (X : S100.Idx → BitVec 32) (hX : ∀ i, (X i).toNat < 1000) (x : S10x1000x128.Idx → F .f32) (A G : S100x128.Idx → F .f32)
    (hA : ∀ (g : Fin 10) (l : Fin 128) (h : 10 * t.val + g.val < 100), A (ix2 (⟨10 * t.val + g.val, h⟩ : Fin 100) l) = blockSum x (ix2 g l))
    (hG : ∀ g < 10, RowIs X x G (10 * t.val + g) g)
    (x3 : S1x100.Idx → F .f32) (x4 : S1x100.Idx → F .f32) (x5 : S256.Idx → F .f32) (x6 : S1.Idx → F .f32) (x7 : S128x128.Idx → F .f32) (x8 : S128.Idx → F .f32) (x9 : S128x128.Idx → F .f32) (x10 : S128.Idx → F .f32) (x11 : S1x128.Idx → F .f32) (x12 : S128.Idx → F .f32) (x13 : S1x128.Idx → F .f32) (x14 : S128.Idx → F .f32) (x15 : S1x100.Idx → F .f32) (z : S1x100.Idx → F .f32) (hz : t.val = 9 → z = outOf A G x3 x4 x5 x6 x7 x8 x9 x10 x11 x12 x13 x14) (hz' : t.val ≠ 9 → z = x15)
    (f₀ f₁ : S100x128.Idx → F .f32) (hf₀ : Filled (10 * t.val) f₀ A) (hf₁ : Filled (10 * t.val) f₁ G)
    {q1 q2 q3 q4 q5 q6 q7 q8 q9 q10 q11 q12 q13 q14 : PosShare TreeShare} :
    iprop(owns (c : Thread nD τ) arg1 q1 (X : S100.Idx → Elt F .i32)
        ∗ owns (c : Thread nD τ) arg2 q2 (x : S10x1000x128.Idx → Elt F .f32)
        ∗ owns (c : Thread nD τ) arg3 q3 (x3 : S1x100.Idx → Elt F .f32)
        ∗ owns (c : Thread nD τ) arg4 q4 (x4 : S1x100.Idx → Elt F .f32)
        ∗ owns (c : Thread nD τ) arg5 q5 (x5 : S256.Idx → Elt F .f32)
        ∗ owns (c : Thread nD τ) arg6 q6 (x6 : S1.Idx → Elt F .f32)
        ∗ owns (c : Thread nD τ) arg7 q7 (x7 : S128x128.Idx → Elt F .f32)
        ∗ owns (c : Thread nD τ) arg8 q8 (x8 : S128.Idx → Elt F .f32)
        ∗ owns (c : Thread nD τ) arg9 q9 (x9 : S128x128.Idx → Elt F .f32)
        ∗ owns (c : Thread nD τ) arg10 q10 (x10 : S128.Idx → Elt F .f32)
        ∗ owns (c : Thread nD τ) arg11 q11 (x11 : S1x128.Idx → Elt F .f32)
        ∗ owns (c : Thread nD τ) arg12 q12 (x12 : S128.Idx → Elt F .f32)
        ∗ owns (c : Thread nD τ) arg13 q13 (x13 : S1x128.Idx → Elt F .f32)
        ∗ owns (c : Thread nD τ) arg14 q14 (x14 : S128.Idx → Elt F .f32)
        ∗ owns (c : Thread nD τ) arg15 fullShare (x15 : S1x100.Idx → Elt F .f32) ∗ owns (c : Thread nD τ) arg16 fullShare (f₀ : S100x128.Idx → Elt F .f32) ∗ owns (c : Thread nD τ) arg17 fullShare (f₁ : S100x128.Idx → Elt F .f32)
        ∗ (∀ f₀' f₁', ⌜Filled (10 * (t.val + 1)) f₀' A ∧ Filled (10 * (t.val + 1)) f₁' G⌝
          -∗ owns (c : Thread nD τ) arg1 q1 (X : S100.Idx → Elt F .i32)
          -∗ owns (c : Thread nD τ) arg2 q2 (x : S10x1000x128.Idx → Elt F .f32)
          -∗ owns (c : Thread nD τ) arg3 q3 (x3 : S1x100.Idx → Elt F .f32)
          -∗ owns (c : Thread nD τ) arg4 q4 (x4 : S1x100.Idx → Elt F .f32)
          -∗ owns (c : Thread nD τ) arg5 q5 (x5 : S256.Idx → Elt F .f32)
          -∗ owns (c : Thread nD τ) arg6 q6 (x6 : S1.Idx → Elt F .f32)
          -∗ owns (c : Thread nD τ) arg7 q7 (x7 : S128x128.Idx → Elt F .f32)
          -∗ owns (c : Thread nD τ) arg8 q8 (x8 : S128.Idx → Elt F .f32)
          -∗ owns (c : Thread nD τ) arg9 q9 (x9 : S128x128.Idx → Elt F .f32)
          -∗ owns (c : Thread nD τ) arg10 q10 (x10 : S128.Idx → Elt F .f32)
          -∗ owns (c : Thread nD τ) arg11 q11 (x11 : S1x128.Idx → Elt F .f32)
          -∗ owns (c : Thread nD τ) arg12 q12 (x12 : S128.Idx → Elt F .f32)
          -∗ owns (c : Thread nD τ) arg13 q13 (x13 : S1x128.Idx → Elt F .f32)
          -∗ owns (c : Thread nD τ) arg14 q14 (x14 : S128.Idx → Elt F .f32)
          -∗ owns (c : Thread nD τ) arg15 fullShare (z : S1x100.Idx → Elt F .f32)
          -∗ owns (c : Thread nD τ) arg16 fullShare (f₀' : S100x128.Idx → Elt F .f32) -∗ owns (c : Thread nD τ) arg17 fullShare (f₁' : S100x128.Idx → Elt F .f32) -∗ Q ⟨⟩))
      ⊢ (wp frame (wpE (defs₀ (F := F)) Variants.none c none) E (cc0__body (F := F) (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q : sProp 𝕄) := by
  have ht : t.val < 10 := t.isLt
  have h100 : 10 * t.val + 10 ≤ 100 := by omega
  rw [body_eq]
  unfold body
  iintro ⟨H1, H2, H3, H4, H5, H6, H7, H8, H9, H10, H11, H12, H13, H14, H15, H16, H17, Hk⟩
  iapply (load_all (F := F) c E Q (M := arg2) zero3) $$ H2
  iintro H2
  rw [steps_eq (grid0.coords t) arg1 arg2 arg16 arg17 _ _ t.val ht (cond_iff t) 10 (le_refl 10), if_pos (Nat.le_add_left 10 t.val)]
  iapply (branch_wp c E _ ((cond_iff t t.val ht).2 rfl) arg1 arg2 arg16 arg17 X hX x G Q (10 * t.val) h100 hG (blockSum x) A
    (fun g l => hA g l _) _ f₀ f₁ hf₀ hf₁)
  isplitl [H1]
  · iexact H1
  isplitl [H2]
  · iexact H2
  isplitl [H16]
  · iexact H16
  isplitl [H17]
  · iexact H17
  iintro %f₀' %f₁' %hf H1 H2 H16 H17
  by_cases h9 : t.val = 9
  · rw [if_pos ((cond_iff t 9 (by omega)).2 h9.symm)]
    have e₀ : f₀' = A := funext fun y => hf.1 y (by have := (y 0).isLt; have : (y 0).val < 100 := (y 0).isLt; omega)
    have e₁ : f₁' = G := funext fun y => hf.2 y (by have : (y 0).val < 100 := (y 0).isLt; omega)
    subst e₀ e₁
    iapply (last_wp (F := F) c E Q (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f₀' f₁' x3 x4 x5 x6 x7 x8 x9 x10 x11 x12 x13 x14 x15)
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iintro H3 H4 H5 H6 H7 H8 H9 H10 H11 H12 H13 H14 H15 H16 H17
    rw [wp_pure]
    imodintro
    rw [← hz h9]
    iapply Hk $$ %f₀' %f₁' [] H1 H2 H3 H4 H5 H6 H7 H8 H9 H10 H11 H12 H13 H14 H15 H16 H17
    ipureintro
    exact hf
  · rw [if_neg fun h => h9 ((cond_iff t 9 (by omega)).1 h).symm, wp_pure]
    imodintro
    rw [← hz' h9]
    iapply Hk $$ %f₀' %f₁' [] H1 H2 H3 H4 H5 H6 H7 H8 H9 H10 H11 H12 H13 H14 H15 H16 H17
    ipureintro
    exact hf

end Cert.Kernel.Value
-- ==== Proof.Data.lean ====
module

public import proofs.«01_k».proof.Proof.Point
public import Idealize.ShloMosaic.Lib.Pipeline.ValueKit
public import Idealize.ShloMosaic.Lib.Claim

/-! The pipeline's proof data: what each buffer holds at each point, and that the body keeps it so. -/

@[expose] public section

set_option maxRecDepth 16384

noncomputable section

namespace Cert.Kernel.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The words of the prefetched table. -/
def words : S100.Idx → BitVec 32 := tbl m 0

/-- The table's half that the body is handed, as an owned memref. -/
theorem table_owned (c : Dev nD) : (tbPt0 c tbM0_0 (tbl m 0) : sProp 𝕄) = owns (c : Thread nD τ) tbM0_0 fullShare.right (words m : S100.Idx → Elt F .i32) :=
  (owns_whole _ _ _ _).symm

/-- The input array of the graphs' features. -/
def feat (c : Dev nD) : S100x1000x128.Idx → F .f32 := V m c main_arg0

variable (hO : Ok m) (hX : ∀ i, (words m i).toNat < 1000)

/-- The block of ten graphs at a point. -/
def block (c : Dev nD) (t : Fin (cfgM m hO).N) : S10x1000x128.Idx → F .f32 := iblk m hO c 0 t

/-- Where the block of a point lies. -/
theorem place : ∀ t : Fin grid0.N, cc0_transform_0 (grid0.coords t) 0 = t.val ∧ cc0_transform_0 (grid0.coords t) 1 = 0 ∧ cc0_transform_0 (grid0.coords t) 2 = 0 := by
  decide +kernel

/-- The block at a point holds the ten graphs that start at ten times the point's number. -/
theorem block_apply (c : Dev nD) (t : Fin (cfgM m hO).N) (g : Fin 10) (n : Fin 1000) (l : Fin 128) (h : 10 * t.val + g.val < 100) :
    block m hO c t (ix3 g n l) = feat m c (ix3 (⟨10 * t.val + g.val, h⟩ : Fin 100) n l) := by
  unfold block feat
  blk_ext [iblk]
  · show cc0_transform_0 (grid0.coords t) 0 * 10 + g.val = 10 * t.val + g.val
    rw [(place t).1]
    omega
  · show cc0_transform_0 (grid0.coords t) 1 * 1000 + n.val = n.val
    rw [(place t).2.1]
    omega
  · show cc0_transform_0 (grid0.coords t) 2 * 128 + l.val = l.val
    rw [(place t).2.2]
    omega

/-- Row `10 t + g` of the sums is the sum of graph `g` of block `t` over its nodes. -/
def sums (c : Dev nD) : S100x128.Idx → F .f32 := fun y =>
  blockSum (block m hO c ⟨(y 0).val / 10, by have : (y 0).val < 100 := (y 0).isLt; show (y 0).val / 10 < 10; omega⟩)
    (ix2 (⟨(y 0).val % 10, Nat.mod_lt _ (by decide)⟩ : Fin 10) (y 1))

/-- Row `r` of the copied rows is the row of graph `r` that word `r` names. -/
def rows (c : Dev nD) : S100x128.Idx → F .f32 := fun y =>
  feat m c (ix3 (y 0) (⟨(words m (ix1 (y 0))).toNat, hX _⟩ : Fin 1000) (y 1))

theorem sums_apply (c : Dev nD) (t : Fin (cfgM m hO).N) (g : Fin 10) (l : Fin 128) (h : 10 * t.val + g.val < 100) :
    sums m hO c (ix2 (⟨10 * t.val + g.val, h⟩ : Fin 100) l) = blockSum (block m hO c t) (ix2 g l) := by
  have e : ∀ (t' : Fin (cfgM m hO).N) (g' : Fin 10), t' = t → g' = g →
      blockSum (block m hO c t') (ix2 g' l) = blockSum (block m hO c t) (ix2 g l) := by
    rintro _ _ rfl rfl; rfl
  refine e _ _ (Fin.ext ?_) (Fin.ext ?_)
  · show (10 * t.val + g.val) / 10 = t.val
    have := g.isLt
    omega
  · show (10 * t.val + g.val) % 10 = g.val
    have := g.isLt
    omega

theorem rows_is (c : Dev nD) (t : Fin (cfgM m hO).N) (g : ℕ) (hg : g < 10) :
    RowIs (words m) (block m hO c t) (rows m hX c) (10 * t.val + g) g := by
  intro hr hg hv l
  exact (block_apply m hO c t ⟨g, hg⟩ _ l hr).symm

/-- What the last point stores in the output. -/
def outAt (c : Dev nD) (t : Fin (cfgM m hO).N) : S1x100.Idx → F .f32 :=
  outOf (sums m hO c) (rows m hX c) (iblk m hO c 1 t : S1x100.Idx → F .f32) (iblk m hO c 2 t : S1x100.Idx → F .f32) (iblk m hO c 3 t : S256.Idx → F .f32) (iblk m hO c 4 t : S1.Idx → F .f32) (iblk m hO c 5 t : S128x128.Idx → F .f32) (iblk m hO c 6 t : S128.Idx → F .f32) (iblk m hO c 7 t : S128x128.Idx → F .f32) (iblk m hO c 8 t : S128.Idx → F .f32) (iblk m hO c 9 t : S1x128.Idx → F .f32) (iblk m hO c 10 t : S128.Idx → F .f32) (iblk m hO c 11 t : S1x128.Idx → F .f32) (iblk m hO c 12 t : S128.Idx → F .f32)

/-- What the body keeps from point to point: before point `n` the first `10 n` rows of each scratch array hold their last value. -/
def inv (c : Dev nD) (n : ℕ) : sProp 𝕄 :=
  iprop((∃ f₀ f₁ : S100x128.Idx → F .f32, ⌜Filled (10 * n) f₀ (sums m hO c) ∧ Filled (10 * n) f₁ (rows m hX c)⌝
      ∗ owns (c : Thread nD τ) scM0_0 fullShare (f₀ : S100x128.Idx → Elt F .f32) ∗ owns (c : Thread nD τ) scM0_1 fullShare (f₁ : S100x128.Idx → Elt F .f32))
    ∗ (∃ r, prngReg c r) ∗ owns (c : Thread nD τ) tbM0_0 fullShare.right (words m : S100.Idx → Elt F .i32))

/-- The proof data: every input's buffer at its block, the output's buffer at what the last point stores, and `inv`. -/
def dat (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => outAt m hO hX c t
  Φ n := inv m hO hX c n.val
  q _ := fullShare
  owed _ := 0

theorem dat_arr (c : Dev nD) (w : Fin (cfgM m hO).W) : (dat m hO hX 0 c).A w = V m c (Pipeline.arrRef spec0 w) := by
  dsimp only [dat]

theorem after_0 (c : Dev nD) (t : Fin (cfgM m hO).N) : (dat m hO hX 0 c).after 0 t = iblk m hO c 0 t := by dsimp only [dat]; try rfl
theorem after_1 (c : Dev nD) (t : Fin (cfgM m hO).N) : (dat m hO hX 0 c).after 1 t = iblk m hO c 1 t := by dsimp only [dat]; try rfl
theorem after_2 (c : Dev nD) (t : Fin (cfgM m hO).N) : (dat m hO hX 0 c).after 2 t = iblk m hO c 2 t := by dsimp only [dat]; try rfl
theorem after_3 (c : Dev nD) (t : Fin (cfgM m hO).N) : (dat m hO hX 0 c).after 3 t = iblk m hO c 3 t := by dsimp only [dat]; try rfl
theorem after_4 (c : Dev nD) (t : Fin (cfgM m hO).N) : (dat m hO hX 0 c).after 4 t = iblk m hO c 4 t := by dsimp only [dat]; try rfl
theorem after_5 (c : Dev nD) (t : Fin (cfgM m hO).N) : (dat m hO hX 0 c).after 5 t = iblk m hO c 5 t := by dsimp only [dat]; try rfl
theorem after_6 (c : Dev nD) (t : Fin (cfgM m hO).N) : (dat m hO hX 0 c).after 6 t = iblk m hO c 6 t := by dsimp only [dat]; try rfl
theorem after_7 (c : Dev nD) (t : Fin (cfgM m hO).N) : (dat m hO hX 0 c).after 7 t = iblk m hO c 7 t := by dsimp only [dat]; try rfl
theorem after_8 (c : Dev nD) (t : Fin (cfgM m hO).N) : (dat m hO hX 0 c).after 8 t = iblk m hO c 8 t := by dsimp only [dat]; try rfl
theorem after_9 (c : Dev nD) (t : Fin (cfgM m hO).N) : (dat m hO hX 0 c).after 9 t = iblk m hO c 9 t := by dsimp only [dat]; try rfl
theorem after_10 (c : Dev nD) (t : Fin (cfgM m hO).N) : (dat m hO hX 0 c).after 10 t = iblk m hO c 10 t := by dsimp only [dat]; try rfl
theorem after_11 (c : Dev nD) (t : Fin (cfgM m hO).N) : (dat m hO hX 0 c).after 11 t = iblk m hO c 11 t := by dsimp only [dat]; try rfl
theorem after_12 (c : Dev nD) (t : Fin (cfgM m hO).N) : (dat m hO hX 0 c).after 12 t = iblk m hO c 12 t := by dsimp only [dat]; try rfl
theorem after_13 (c : Dev nD) (t : Fin (cfgM m hO).N) : (dat m hO hX 0 c).after 13 t = outAt m hO hX c t := by dsimp only [dat]; try rfl

theorem before_0 (c : Dev nD) (t : Fin (cfgM m hO).N) (d) : (dat m hO hX 0 c).before 0 t d = iblk m hO c 0 t :=
  before0_0_of m hO (dat m hO hX 0 c) (dat_arr m hO hX c 0) (after_0 m hO hX c) t d
theorem before_1 (c : Dev nD) (t : Fin (cfgM m hO).N) (d) : (dat m hO hX 0 c).before 1 t d = iblk m hO c 1 t :=
  before0_1_of m hO (dat m hO hX 0 c) (dat_arr m hO hX c 1) (after_1 m hO hX c) t d
theorem before_2 (c : Dev nD) (t : Fin (cfgM m hO).N) (d) : (dat m hO hX 0 c).before 2 t d = iblk m hO c 2 t :=
  before0_2_of m hO (dat m hO hX 0 c) (dat_arr m hO hX c 2) (after_2 m hO hX c) t d
theorem before_3 (c : Dev nD) (t : Fin (cfgM m hO).N) (d) : (dat m hO hX 0 c).before 3 t d = iblk m hO c 3 t :=
  before0_3_of m hO (dat m hO hX 0 c) (dat_arr m hO hX c 3) (after_3 m hO hX c) t d
theorem before_4 (c : Dev nD) (t : Fin (cfgM m hO).N) (d) : (dat m hO hX 0 c).before 4 t d = iblk m hO c 4 t :=
  before0_4_of m hO (dat m hO hX 0 c) (dat_arr m hO hX c 4) (after_4 m hO hX c) t d
theorem before_5 (c : Dev nD) (t : Fin (cfgM m hO).N) (d) : (dat m hO hX 0 c).before 5 t d = iblk m hO c 5 t :=
  before0_5_of m hO (dat m hO hX 0 c) (dat_arr m hO hX c 5) (after_5 m hO hX c) t d
theorem before_6 (c : Dev nD) (t : Fin (cfgM m hO).N) (d) : (dat m hO hX 0 c).before 6 t d = iblk m hO c 6 t :=
  before0_6_of m hO (dat m hO hX 0 c) (dat_arr m hO hX c 6) (after_6 m hO hX c) t d
theorem before_7 (c : Dev nD) (t : Fin (cfgM m hO).N) (d) : (dat m hO hX 0 c).before 7 t d = iblk m hO c 7 t :=
  before0_7_of m hO (dat m hO hX 0 c) (dat_arr m hO hX c 7) (after_7 m hO hX c) t d
theorem before_8 (c : Dev nD) (t : Fin (cfgM m hO).N) (d) : (dat m hO hX 0 c).before 8 t d = iblk m hO c 8 t :=
  before0_8_of m hO (dat m hO hX 0 c) (dat_arr m hO hX c 8) (after_8 m hO hX c) t d
theorem before_9 (c : Dev nD) (t : Fin (cfgM m hO).N) (d) : (dat m hO hX 0 c).before 9 t d = iblk m hO c 9 t :=
  before0_9_of m hO (dat m hO hX 0 c) (dat_arr m hO hX c 9) (after_9 m hO hX c) t d
theorem before_10 (c : Dev nD) (t : Fin (cfgM m hO).N) (d) : (dat m hO hX 0 c).before 10 t d = iblk m hO c 10 t :=
  before0_10_of m hO (dat m hO hX 0 c) (dat_arr m hO hX c 10) (after_10 m hO hX c) t d
theorem before_11 (c : Dev nD) (t : Fin (cfgM m hO).N) (d) : (dat m hO hX 0 c).before 11 t d = iblk m hO c 11 t :=
  before0_11_of m hO (dat m hO hX 0 c) (dat_arr m hO hX c 11) (after_11 m hO hX c) t d
theorem before_12 (c : Dev nD) (t : Fin (cfgM m hO).N) (d) : (dat m hO hX 0 c).before 12 t d = iblk m hO c 12 t :=
  before0_12_of m hO (dat m hO hX 0 c) (dat_arr m hO hX c 12) (after_12 m hO hX c) t d

theorem leaves_0 (c : Dev nD) (t : Fin (cfgM m hO).N) : (dat m hO hX 0 c).leavesExact 0 t = owns (c : Thread nD τ) (ms0_0 m hO t) fullShare (iblk m hO c 0 t) := by
  unfold Dat.leavesExact; rw [liveAt0_0 m hO t]; try rfl
theorem leaves_1 (c : Dev nD) (t : Fin (cfgM m hO).N) : (dat m hO hX 0 c).leavesExact 1 t = owns (c : Thread nD τ) (ms0_1 m hO t) fullShare (iblk m hO c 1 t) := by
  unfold Dat.leavesExact; rw [liveAt0_1 m hO t]; try rfl
theorem leaves_2 (c : Dev nD) (t : Fin (cfgM m hO).N) : (dat m hO hX 0 c).leavesExact 2 t = owns (c : Thread nD τ) (ms0_2 m hO t) fullShare (iblk m hO c 2 t) := by
  unfold Dat.leavesExact; rw [liveAt0_2 m hO t]; try rfl
theorem leaves_3 (c : Dev nD) (t : Fin (cfgM m hO).N) : (dat m hO hX 0 c).leavesExact 3 t = owns (c : Thread nD τ) (ms0_3 m hO t) fullShare (iblk m hO c 3 t) := by
  unfold Dat.leavesExact; rw [liveAt0_3 m hO t]; try rfl
theorem leaves_4 (c : Dev nD) (t : Fin (cfgM m hO).N) : (dat m hO hX 0 c).leavesExact 4 t = owns (c : Thread nD τ) (ms0_4 m hO t) fullShare (iblk m hO c 4 t) := by
  unfold Dat.leavesExact; rw [liveAt0_4 m hO t]; try rfl
theorem leaves_5 (c : Dev nD) (t : Fin (cfgM m hO).N) : (dat m hO hX 0 c).leavesExact 5 t = owns (c : Thread nD τ) (ms0_5 m hO t) fullShare (iblk m hO c 5 t) := by
  unfold Dat.leavesExact; rw [liveAt0_5 m hO t]; try rfl
theorem leaves_6 (c : Dev nD) (t : Fin (cfgM m hO).N) : (dat m hO hX 0 c).leavesExact 6 t = owns (c : Thread nD τ) (ms0_6 m hO t) fullShare (iblk m hO c 6 t) := by
  unfold Dat.leavesExact; rw [liveAt0_6 m hO t]; try rfl
theorem leaves_7 (c : Dev nD) (t : Fin (cfgM m hO).N) : (dat m hO hX 0 c).leavesExact 7 t = owns (c : Thread nD τ) (ms0_7 m hO t) fullShare (iblk m hO c 7 t) := by
  unfold Dat.leavesExact; rw [liveAt0_7 m hO t]; try rfl
theorem leaves_8 (c : Dev nD) (t : Fin (cfgM m hO).N) : (dat m hO hX 0 c).leavesExact 8 t = owns (c : Thread nD τ) (ms0_8 m hO t) fullShare (iblk m hO c 8 t) := by
  unfold Dat.leavesExact; rw [liveAt0_8 m hO t]; try rfl
theorem leaves_9 (c : Dev nD) (t : Fin (cfgM m hO).N) : (dat m hO hX 0 c).leavesExact 9 t = owns (c : Thread nD τ) (ms0_9 m hO t) fullShare (iblk m hO c 9 t) := by
  unfold Dat.leavesExact; rw [liveAt0_9 m hO t]; try rfl
theorem leaves_10 (c : Dev nD) (t : Fin (cfgM m hO).N) : (dat m hO hX 0 c).leavesExact 10 t = owns (c : Thread nD τ) (ms0_10 m hO t) fullShare (iblk m hO c 10 t) := by
  unfold Dat.leavesExact; rw [liveAt0_10 m hO t]; try rfl
theorem leaves_11 (c : Dev nD) (t : Fin (cfgM m hO).N) : (dat m hO hX 0 c).leavesExact 11 t = owns (c : Thread nD τ) (ms0_11 m hO t) fullShare (iblk m hO c 11 t) := by
  unfold Dat.leavesExact; rw [liveAt0_11 m hO t]; try rfl
theorem leaves_12 (c : Dev nD) (t : Fin (cfgM m hO).N) : (dat m hO hX 0 c).leavesExact 12 t = owns (c : Thread nD τ) (ms0_12 m hO t) fullShare (iblk m hO c 12 t) := by
  unfold Dat.leavesExact; rw [liveAt0_12 m hO t]; try rfl

/-- Before the last point the output's buffer is handed back as it was found. -/
theorem leaves_13_of_ne (c : Dev nD) (t : Fin (cfgM m hO).N) (h : t.val ≠ 9) :
    (dat m hO hX 0 c).leavesExact 13 t = iprop(∃ d, owns (c : Thread nD τ) (ms0_13 m hO t) fullShare ((dat m hO hX 0 c).before 13 t d)) := by
  have ht : t.val < 10 := t.isLt
  refine Dat.leavesExact_idle _ 13 t ?_ ?_
  · show (!(k0_cond11 (grid0.coords t) == 1#1)) = true
    rw [Bool.not_eq_true', beq_eq_false_iff_ne]
    exact fun e => h (((hcond0_10 t).1 e).symm ▸ (Nat.mod_eq_of_lt ht).symm)
  · rw [Bool.eq_false_iff]
    exact fun e => h ((Nat.mod_eq_of_lt ht).symm.trans ((flush0_13 (adm m hO) t).1 e))

/-- At the last point the output's buffer holds the output. -/
theorem leaves_13_of_eq (c : Dev nD) (t : Fin (cfgM m hO).N) (h : t.val = 9) :
    (dat m hO hX 0 c).leavesExact 13 t = owns (c : Thread nD τ) (ms0_13 m hO t) fullShare (outAt m hO hX c t : S1x100.Idx → Elt F .f32) := by
  have e : (cfgM m hO).idle 13 (grid0.coords t) = false := by
    show (!(k0_cond11 (grid0.coords t) == 1#1)) = false
    rw [Bool.not_eq_false', beq_iff_eq]
    exact (hcond0_10 t).2 (by rw [h])
  unfold Dat.leavesExact
  rw [e]
  try rfl

/-- What the body is handed at a point, window by window. -/
def bodyPre (c : Dev nD) (t : Fin (cfgM m hO).N) : sProp 𝕄 :=
  iprop((dat m hO hX 0 c).Φ t.castSucc ∗ (dat m hO hX 0 c).owesAt () t.castSucc
    ∗ (∃ d, owns (c : Thread nD τ) (ms0_0 m hO t) fullShare ((dat m hO hX 0 c).before 0 t d))
    ∗ (∃ d, owns (c : Thread nD τ) (ms0_1 m hO t) fullShare ((dat m hO hX 0 c).before 1 t d))
    ∗ (∃ d, owns (c : Thread nD τ) (ms0_2 m hO t) fullShare ((dat m hO hX 0 c).before 2 t d))
    ∗ (∃ d, owns (c : Thread nD τ) (ms0_3 m hO t) fullShare ((dat m hO hX 0 c).before 3 t d))
    ∗ (∃ d, owns (c : Thread nD τ) (ms0_4 m hO t) fullShare ((dat m hO hX 0 c).before 4 t d))
    ∗ (∃ d, owns (c : Thread nD τ) (ms0_5 m hO t) fullShare ((dat m hO hX 0 c).before 5 t d))
    ∗ (∃ d, owns (c : Thread nD τ) (ms0_6 m hO t) fullShare ((dat m hO hX 0 c).before 6 t d))
    ∗ (∃ d, owns (c : Thread nD τ) (ms0_7 m hO t) fullShare ((dat m hO hX 0 c).before 7 t d))
    ∗ (∃ d, owns (c : Thread nD τ) (ms0_8 m hO t) fullShare ((dat m hO hX 0 c).before 8 t d))
    ∗ (∃ d, owns (c : Thread nD τ) (ms0_9 m hO t) fullShare ((dat m hO hX 0 c).before 9 t d))
    ∗ (∃ d, owns (c : Thread nD τ) (ms0_10 m hO t) fullShare ((dat m hO hX 0 c).before 10 t d))
    ∗ (∃ d, owns (c : Thread nD τ) (ms0_11 m hO t) fullShare ((dat m hO hX 0 c).before 11 t d))
    ∗ (∃ d, owns (c : Thread nD τ) (ms0_12 m hO t) fullShare ((dat m hO hX 0 c).before 12 t d))
    ∗ (∃ d, owns (c : Thread nD τ) (ms0_13 m hO t) fullShare ((dat m hO hX 0 c).before 13 t d)))

/-- What it hands back. -/
def bodyPost (c : Dev nD) (t : Fin (cfgM m hO).N) : sProp 𝕄 :=
  iprop((dat m hO hX 0 c).Φ t.succ ∗ (dat m hO hX 0 c).owesAt () t.succ
    ∗ (dat m hO hX 0 c).leavesExact 0 t
    ∗ (dat m hO hX 0 c).leavesExact 1 t
    ∗ (dat m hO hX 0 c).leavesExact 2 t
    ∗ (dat m hO hX 0 c).leavesExact 3 t
    ∗ (dat m hO hX 0 c).leavesExact 4 t
    ∗ (dat m hO hX 0 c).leavesExact 5 t
    ∗ (dat m hO hX 0 c).leavesExact 6 t
    ∗ (dat m hO hX 0 c).leavesExact 7 t
    ∗ (dat m hO hX 0 c).leavesExact 8 t
    ∗ (dat m hO hX 0 c).leavesExact 9 t
    ∗ (dat m hO hX 0 c).leavesExact 10 t
    ∗ (dat m hO hX 0 c).leavesExact 11 t
    ∗ (dat m hO hX 0 c).leavesExact 12 t
    ∗ (dat m hO hX 0 c).leavesExact 13 t)

set_option maxHeartbeats 4000000 in
/-- The body at any point. -/
theorem sound (c : Dev nD) (t : Fin (cfgM m hO).N) :
    bodyPre m hO hX c t ⊢ wp frame (wpE (defs₀ (F := F)) Variants.none c none) Set.univ (bodyAt0 (adm m hO) t) (fun _ => bodyPost m hO hX c t) := by
  unfold bodyPre bodyPost bodyAt0
  simp only [before_0, before_1, before_2, before_3, before_4, before_5, before_6, before_7, before_8, before_9, before_10, before_11, before_12]
  rw [show (dat m hO hX 0 c).owesAt () t.succ = (dat m hO hX 0 c).owesAt () t.castSucc from rfl,
    show (dat m hO hX 0 c).Φ t.castSucc = inv m hO hX c t.val from rfl, show (dat m hO hX 0 c).Φ t.succ = inv m hO hX c (t.val + 1) from rfl]
  rw [leaves_0, leaves_1, leaves_2, leaves_3, leaves_4, leaves_5, leaves_6, leaves_7, leaves_8, leaves_9, leaves_10, leaves_11, leaves_12]
  unfold inv
  iintro ⟨⟨⟨%f₀, %f₁, %hf, HS0, HS1⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain ⟨z, hz, hz'⟩ : ∃ z : S1x100.Idx → F .f32, (t.val = 9 → z = outAt m hO hX c t) ∧ (t.val ≠ 9 → z = (dat m hO hX 0 c).before 13 t d13) := by
    by_cases h : t.val = 9
    · exact ⟨_, fun _ => rfl, fun h' => absurd h h'⟩
    · exact ⟨_, fun h' => absurd h' h, fun _ => rfl⟩
  iapply (body_wp (F := F) c Set.univ _ t _ _ _ _ _ _ _ _ _ _ _ _ _ _ _ _ _ _ _ _ _ _ _ _ _ _ _ _ _ _ _ _ _ _ (words m) hX (block m hO c t) (sums m hO c) (rows m hX c) (sums_apply m hO c t) (rows_is m hO hX c t)
    (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) ((dat m hO hX 0 c).before 13 t d13) z hz hz' f₀ f₁ hf.1 hf.2)
  isplitl [HT]
  · iexact HT
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [HS0]
  · iexact HS0
  isplitl [HS1]
  · iexact HS1
  iintro %f₀' %f₁' %hf' HT H0 H1 H2 H3 H4 H5 H6 H7 H8 H9 H10 H11 H12 H13 HS0 HS1
  isplitl [HS0 HS1 Hg HT]
  · isplitl [HS0 HS1]
    · iexists f₀'
      iexists f₁'
      isplitr
      · ipureintro
        exact hf'
      isplitl [HS0]
      · iexact HS0
      iexact HS1
    isplitl [Hg]
    · iexact Hg
    iexact HT
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  by_cases h : t.val = 9
  · rw [leaves_13_of_eq m hO hX c t h, ← hz h]
    iexact H13
  · rw [leaves_13_of_ne m hO hX c t h]
    obtain rfl := hz' h
    iexists d13
    iexact H13

/-- The body table's row at a point is the body on that point's buffers. -/
theorem row_eq (t : Fin (cfgM m hO).N) :
    defs₀ (F := F) .tc (cfgM m hO).body ((cfgM m hO).bodyArgs t ((cfgM m hO).slots t)) = bodyAt0 (adm m hO) t := by
  unfold defs₀; rw [Defs.onTc_tc]

/-- The body keeps the proof data at every point. -/
theorem obligation (c : Dev nD) : BodyObligation (dat (F := F) m hO hX 0 c) (defs₀ (F := F)) Variants.none () Set.univ := fun t => by
  rw [bigSep_W0, bigSep_W0, row_eq m hO]
  exact triple_restated (sound m hO hX c t) rfl .rfl fun _ => .rfl

end Cert.Kernel.Value
-- ==== Proof.Run.lean ====
module

public import proofs.«01_k».proof.Proof.Data

/-! The whole run: what the kernel leaves in its result and in its arguments. -/

@[expose] public section

set_option maxRecDepth 16384

noncomputable section

namespace Cert.Kernel.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m) (hX : ∀ i, (words m i).toNat < 1000)

/-- What the launch hands over is the invariant before the first point: no row is filled. -/
theorem enter (c : Dev nD) : iprop(Pipeline.ΦA spec0 c ∗ Pipeline.ΦT pre0 (tbl m) c) ⊢ inv m hO hX c 0 := by
  rw [PhiA0_eq, PhiT0_eq, table_owned]
  unfold inv
  iintro ⟨⟨⟨⟨%f₀, H0⟩, ⟨%f₁, H1⟩⟩, Hg⟩, HT⟩
  isplitl [H0 H1]
  · iexists f₀
    iexists f₁
    isplitr
    · ipureintro
      exact ⟨fun a h => absurd h (by omega), fun a h => absurd h (by omega)⟩
    isplitl [H0]
    · iexact H0
    iexact H1
  isplitl [Hg]
  · iexact Hg
  iexact HT

/-- The invariant after the last point gives the scratch arrays back. -/
theorem leave (c : Dev nD) (n : ℕ) : inv m hO hX c n ⊢ Pipeline.ΦA spec0 c := by
  rw [PhiA0_eq]
  unfold inv
  iintro ⟨⟨%f₀, %f₁, %hf, H0, H1⟩, Hg, HT⟩
  isplitl [H0 H1]
  · isplitl [H0]
    · iexists f₀
      iexact H0
    iexists f₁
    iexact H1
  iexact Hg

set_option backward.isDefEq.respectTransparency.types false in
set_option maxHeartbeats 800000 in
/-- Every run of the kernel ends, every counter at zero, with the arrays at what the proof data say. -/
theorem run : θ_run defs (onTc (τ := τ) (main (F := F))) (s₀ m ρ) (fun r =>
    Pipeline.FramePost (Pipeline.pin pcfgs fun _ => adm m hO) (dat m hO hX) 0 (Pipeline.afterTail pcfgs (fun _ => adm m hO) (dat m hO hX) 0 (V0 m) [hostOps1]) r
      ∧ r.2.sem = fun _ => 0) :=
  Pipeline.θ_run_frameP_around_track (Q' := _) pcfgs (fun _ => adm m hO) (dat m hO hX) (0 : Fin 1) launch0 defs₀ Variants.none m ρ main
    (hbody := fun c => (obligation m hO hX c).loose) (hshare := fun c => (dat m hO hX 0 c).share_full fun _ => rfl)
    (howed := fun _ _ => rfl) (V₀ := V0 m) (opss := [hostOps1]) (hsub := sfx_sub) (hfresh := sfx_fresh) (hkeep := sfx_keeps)
    (hmain := hmain m Variants.none) (hA := dat_arr m hO hX) (hpf := V_pre m) (hin := enter m hO hX) (hout := fun c => leave m hO hX c _)

/-- The run's final state keeps every argument. -/
theorem kept (c : Dev nD) (r : PUnit × MemSt nD τ sig (Elt F))
    (h : Pipeline.FramePost (Pipeline.pin pcfgs fun _ => adm m hO) (dat m hO hX) 0 (Pipeline.afterTail pcfgs (fun _ => adm m hO) (dat m hO hX) 0 (V0 m) [hostOps1]) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(h.in_eq c 0 rfl).trans ((dat_arr m hO hX c 0).trans (V_main_arg0 m c)),
   (h.rest_eq c main_arg1 (by exact (by decide : main_arg1 ∈ Pipeline.restRefs sig spec0))).trans (W_main_arg1 m hO (dat m hO hX) c),
   (h.rest_eq c main_arg2 (by exact (by decide : main_arg2 ∈ Pipeline.restRefs sig spec0))).trans (W_main_arg2 m hO (dat m hO hX) c),
   (h.rest_eq c main_arg3 (by exact (by decide : main_arg3 ∈ Pipeline.restRefs sig spec0))).trans (W_main_arg3 m hO (dat m hO hX) c),
   (h.rest_eq c main_arg4 (by exact (by decide : main_arg4 ∈ Pipeline.restRefs sig spec0))).trans (W_main_arg4 m hO (dat m hO hX) c),
   (h.in_eq c 4 rfl).trans ((dat_arr m hO hX c 4).trans (V_main_arg5 m c)),
   (h.in_eq c 5 rfl).trans ((dat_arr m hO hX c 5).trans (V_main_arg6 m c)),
   (h.in_eq c 6 rfl).trans ((dat_arr m hO hX c 6).trans (V_main_arg7 m c)),
   (h.in_eq c 7 rfl).trans ((dat_arr m hO hX c 7).trans (V_main_arg8 m c)),
   (h.in_eq c 8 rfl).trans ((dat_arr m hO hX c 8).trans (V_main_arg9 m c)),
   (h.in_eq c 9 rfl).trans ((dat_arr m hO hX c 9).trans (V_main_arg10 m c)),
   (h.in_eq c 10 rfl).trans ((dat_arr m hO hX c 10).trans (V_main_arg11 m c)),
   (h.in_eq c 11 rfl).trans ((dat_arr m hO hX c 11).trans (V_main_arg12 m c)),
   (h.in_eq c 12 rfl).trans ((dat_arr m hO hX c 12).trans (V_main_arg13 m c))⟩

/-- The row of outputs: `outOf` at the sums, the copied rows and the whole operands. -/
def outRow (c : Dev nD) : S1x100.Idx → F .f32 :=
  outOf (sums m hO c) (rows m hX c) (V m c main_v0 : S1x100.Idx → F .f32) (V m c main_v1 : S1x100.Idx → F .f32) (V m c main_v2 : S256.Idx → F .f32) (V m c main_arg5 : S1.Idx → F .f32) (V m c main_arg6 : S128x128.Idx → F .f32) (V m c main_arg7 : S128.Idx → F .f32) (V m c main_arg8 : S128x128.Idx → F .f32) (V m c main_arg9 : S128.Idx → F .f32) (V m c main_arg10 : S1x128.Idx → F .f32) (V m c main_arg11 : S128.Idx → F .f32) (V m c main_arg12 : S1x128.Idx → F .f32) (V m c main_arg13 : S128.Idx → F .f32)

/-- Window 1's block is its whole array at every point. -/
theorem whole_1 (c : Dev nD) (t : Fin (cfgM m hO).N) : (iblk m hO c 1 t : S1x100.Idx → F .f32) = (V m c main_v0 : S1x100.Idx → F .f32) := by
  funext j
  blk_ext [iblk]
  all_goals first | exact (congrArg (· + _) (Nat.zero_mul _)).trans (Nat.zero_add _) | rfl
/-- Window 2's block is its whole array at every point. -/
theorem whole_2 (c : Dev nD) (t : Fin (cfgM m hO).N) : (iblk m hO c 2 t : S1x100.Idx → F .f32) = (V m c main_v1 : S1x100.Idx → F .f32) := by
  funext j
  blk_ext [iblk]
  all_goals first | exact (congrArg (· + _) (Nat.zero_mul _)).trans (Nat.zero_add _) | rfl
/-- Window 3's block is its whole array at every point. -/
theorem whole_3 (c : Dev nD) (t : Fin (cfgM m hO).N) : (iblk m hO c 3 t : S256.Idx → F .f32) = (V m c main_v2 : S256.Idx → F .f32) := by
  funext j
  blk_ext [iblk]
  all_goals first | exact (congrArg (· + _) (Nat.zero_mul _)).trans (Nat.zero_add _) | rfl
/-- Window 4's block is its whole array at every point. -/
theorem whole_4 (c : Dev nD) (t : Fin (cfgM m hO).N) : (iblk m hO c 4 t : S1.Idx → F .f32) = (V m c main_arg5 : S1.Idx → F .f32) := by
  funext j
  blk_ext [iblk]
  all_goals first | exact (congrArg (· + _) (Nat.zero_mul _)).trans (Nat.zero_add _) | rfl
/-- Window 5's block is its whole array at every point. -/
theorem whole_5 (c : Dev nD) (t : Fin (cfgM m hO).N) : (iblk m hO c 5 t : S128x128.Idx → F .f32) = (V m c main_arg6 : S128x128.Idx → F .f32) := by
  funext j
  blk_ext [iblk]
  all_goals first | exact (congrArg (· + _) (Nat.zero_mul _)).trans (Nat.zero_add _) | rfl
/-- Window 6's block is its whole array at every point. -/
theorem whole_6 (c : Dev nD) (t : Fin (cfgM m hO).N) : (iblk m hO c 6 t : S128.Idx → F .f32) = (V m c main_arg7 : S128.Idx → F .f32) := by
  funext j
  blk_ext [iblk]
  all_goals first | exact (congrArg (· + _) (Nat.zero_mul _)).trans (Nat.zero_add _) | rfl
/-- Window 7's block is its whole array at every point. -/
theorem whole_7 (c : Dev nD) (t : Fin (cfgM m hO).N) : (iblk m hO c 7 t : S128x128.Idx → F .f32) = (V m c main_arg8 : S128x128.Idx → F .f32) := by
  funext j
  blk_ext [iblk]
  all_goals first | exact (congrArg (· + _) (Nat.zero_mul _)).trans (Nat.zero_add _) | rfl
/-- Window 8's block is its whole array at every point. -/
theorem whole_8 (c : Dev nD) (t : Fin (cfgM m hO).N) : (iblk m hO c 8 t : S128.Idx → F .f32) = (V m c main_arg9 : S128.Idx → F .f32) := by
  funext j
  blk_ext [iblk]
  all_goals first | exact (congrArg (· + _) (Nat.zero_mul _)).trans (Nat.zero_add _) | rfl
/-- Window 9's block is its whole array at every point. -/
theorem whole_9 (c : Dev nD) (t : Fin (cfgM m hO).N) : (iblk m hO c 9 t : S1x128.Idx → F .f32) = (V m c main_arg10 : S1x128.Idx → F .f32) := by
  funext j
  blk_ext [iblk]
  all_goals first | exact (congrArg (· + _) (Nat.zero_mul _)).trans (Nat.zero_add _) | rfl
/-- Window 10's block is its whole array at every point. -/
theorem whole_10 (c : Dev nD) (t : Fin (cfgM m hO).N) : (iblk m hO c 10 t : S128.Idx → F .f32) = (V m c main_arg11 : S128.Idx → F .f32) := by
  funext j
  blk_ext [iblk]
  all_goals first | exact (congrArg (· + _) (Nat.zero_mul _)).trans (Nat.zero_add _) | rfl
/-- Window 11's block is its whole array at every point. -/
theorem whole_11 (c : Dev nD) (t : Fin (cfgM m hO).N) : (iblk m hO c 11 t : S1x128.Idx → F .f32) = (V m c main_arg12 : S1x128.Idx → F .f32) := by
  funext j
  blk_ext [iblk]
  all_goals first | exact (congrArg (· + _) (Nat.zero_mul _)).trans (Nat.zero_add _) | rfl
/-- Window 12's block is its whole array at every point. -/
theorem whole_12 (c : Dev nD) (t : Fin (cfgM m hO).N) : (iblk m hO c 12 t : S128.Idx → F .f32) = (V m c main_arg13 : S128.Idx → F .f32) := by
  funext j
  blk_ext [iblk]
  all_goals first | exact (congrArg (· + _) (Nat.zero_mul _)).trans (Nat.zero_add _) | rfl

theorem outAt_eq (c : Dev nD) (t : Fin (cfgM m hO).N) : outAt m hO hX c t = outRow m hO hX c := by
  unfold outAt outRow
  rw [whole_1, whole_2, whole_3, whole_4, whole_5, whole_6, whole_7, whole_8, whole_9, whole_10, whole_11, whole_12]

/-- The output array ends at the row of outputs. -/
theorem out_array (c : Dev nD) : (dat m hO hX 0 c).arrAt 13 (cfgM m hO).N = (outRow m hO hX c : S1x100.Idx → Elt F .f32) := by
  refine (dat m hO hX 0 c).arrAt_eq_of_after_last 13 (⟨9, by decide⟩ : Fin grid0.N) ⟨(flush0_13 (adm m hO) _).2 rfl, fun t h => Fin.ext ?_, fun a => ?_⟩ _ fun j => ?_
  · have := (flush0_13 (adm m hO) t).1 h
    have : t.val < 10 := t.isLt
    show t.val = 9
    omega
  · match a with
    | ⟨0, _⟩ => exact ⟨rfl, rfl⟩
    | ⟨1, _⟩ => exact ⟨rfl, rfl⟩
  blk_simp
  exact congrFun ((after_13 m hO hX c _).trans (outAt_eq m hO hX c _)) _

/-- The kernel's result: the row of outputs as a column. -/
def result (c : Dev nD) : S100x1.Idx → F .f32 := shapeCast S100x1 (outRow m hO hX c) shapeCasts_S1x100_S100x1

theorem out_tail (c : Dev nD) : Pipeline.afterTail pcfgs (fun _ => adm m hO) (dat m hO hX) 0 (V0 m) [hostOps1] c main_v4 = (result m hO hX c : S100x1.Idx → Elt F .f32) := by
  unfold Pipeline.afterTail
  simp only [hostOps1, List.flatten_cons, List.flatten_nil, List.append_nil, StableHlo.after_cons, StableHlo.after_nil]
  rw [StableHlo.reshape_result]
  exact congrArg (fun z : S1x100.Idx → Elt F .f32 => shapeCast S100x1 z shapeCasts_S1x100_S100x1)
    ((Pipeline.withArrays_arr spec0 (launch0 (F := F)).win.arr_inj c (V0 m c) _ 13).trans (out_array m hO hX c))

end Cert.Kernel.Value
-- ==== Proof.Ends.lean ====
module

public import proofs.«01_k».proof.Proof.Run
public import proofs.«01_k».proof.Proof.Gen.Pre_in_range
public import Idealize.ShloMosaic.Lib.ReduceAll

/-! The run from the precondition: the words of the table name rows of their graphs, so every run ends with the
    arguments as they were and the result at `result`. -/

@[expose] public section

set_option maxRecDepth 16384

noncomputable section

namespace Cert.Kernel.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Where the precondition holds every word of the table is below 1000. -/
theorem word_lt (a0 : FVec F S100x1000x128 .f32) (a1 : IVec S100 32) (a2 a3 : FVec F S100x1 .f32) (a4 : FVec F S256x1 .f32) (a5 : FVec F S1 .f32)
    (a6 : FVec F S128x128 .f32) (a7 : FVec F S128 .f32) (a8 : FVec F S128x128 .f32) (a9 : FVec F S128 .f32) (a10 : FVec F S1x128 .f32) (a11 : FVec F S128 .f32)
    (a12 : FVec F S1x128 .f32) (a13 : FVec F S128 .f32) (h : Cert.Pre_in_range.fn a0 a1 a2 a3 a4 a5 a6 a7 a8 a9 a10 a11 a12 a13 = fun _ => 1#1) (i : S100.Idx) :
    (a1 i).toNat < 1000 := by
  dsimp only [Cert.Pre_in_range.fn] at h
  have e := Host.reduce_andi_all _ _ _ _ _ (congrFun h (fun a => a.elim0)) i
  obtain ⟨h0, h1⟩ := IntOp.andi_eq_one.1 e
  have l0 : (0#32 : BitVec 32).toInt ≤ (a1 i).toInt := IntOp.cmpi_sge.1 h0
  have l1 : (a1 i).toInt < (1000#32 : BitVec 32).toInt := IntOp.cmpi_slt.1 h1
  rw [show (0#32 : BitVec 32).toInt = 0 from rfl] at l0
  rw [show (1000#32 : BitVec 32).toInt = 1000 from rfl] at l1
  rw [BitVec.toInt_eq_toNat_cond] at l0 l1
  have := (a1 i).isLt
  split at l0 <;> omega

variable (m : (ℓ : Loc nD τ sig) → Buf (Elt F) ℓ) (ρ : Dev nD → PrngReg)

/-- The table is the argument of current nodes. -/
theorem words_eq : words m = (m (((0 : Dev nD) : Thread nD τ).loc main_arg1) : S100.Idx → BitVec 32) := V_main_arg1 m 0

theorem ok : Ok m := trivial

/-- The precondition's word bound, of the table. -/
theorem words_lt (h : ∀ i : S100.Idx, (m (((0 : Dev nD) : Thread nD τ).loc main_arg1) i : BitVec 32).toNat < 1000) : ∀ i, (words m i).toNat < 1000 := by
  rw [words_eq]
  exact h

/-- Every run of the kernel ends with the result at `result`, the arguments unchanged and every counter at zero. -/
theorem main_run (hX : ∀ i, (words m i).toNat < 1000) : θ_run defs (onTc (τ := τ) (main (F := F))) ⟨m, fun _ => 0, ρ⟩ (fun r => (∀ c : Dev nD,
      r.2.mem ((c.tc : Thread nD τ).loc main_v4) = (result m (ok m) hX c : S100x1.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0) :=
  (θ_run defs _ _).mono (fun r h => ⟨fun c => ⟨(h.1.rest_eq c main_v4 (by exact (by decide : main_v4 ∈ Pipeline.restRefs sig spec0))).trans (out_tail m (ok m) hX c), kept m (ok m) hX c r h.1⟩, h.2⟩) (run m ρ (ok m) hX)

end Cert.Kernel.Value
-- ==== Proof.Twin.lean ====
module

public import proofs.«01_k».proof.Proof.Ends
public import proofs.«01_k».proof.Proof.Gen.KernelIdeal
public import proofs.«01_k».proof.Proof.Gen.KernelIdeal.Skeleton

/-! The program read over ideal numbers has the same text as the kernel, so its run is the kernel's run. -/

@[expose] public section

set_option maxRecDepth 16384

noncomputable section

namespace Cert.Kernel.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

set_option maxRecDepth 65536 in
set_option maxHeartbeats 4000000 in
/-- The ideal program's body is the body written for the kernel. -/
theorem ideal_body : Cert.KernelIdeal.cc0__body (F := F) = body (F := F) := by
  rw [Cert.KernelIdeal.Gen.cc0__body_eq_skeleton]
  funext x _ _ _ _ _ _ _ _ _ _ _ _ _ _ _ _ _ _ _ _ _ _ _ _ _ _ _ _ _ _ _ _ _ _
  unfold Cert.KernelIdeal.Gen.cc0__body_skel body
  rw [Cert.KernelIdeal.Gen.k0_part22_eq_skeleton]
  unfold Cert.KernelIdeal.Gen.k0_part22_skel
  extract_lets u
  rw [bind_assoc]
  refine bind_congr fun v0 => ?_
  extract_lets w j8 j7 j6 j5 j4 j3 j2
  iterate 7
    refine step_eq rfl _ _ _ (fun h h' => ?_) ?_
    · rfl
    first | subst j2 | subst j3 | subst j4 | subst j5 | subst j6 | subst j7 | subst j8
  refine step_eq rfl _ (fun _ => _) _ (fun h h' => ?_) ?_
  · rfl
  rw [pure_bind]
  dsimp -zeta only
  extract_lets j0
  refine (bind_pure _).symm.trans ?_
  refine step_eq rfl _ _ _ (fun h h' => ?_) ?_
  · rfl
  subst j0
  try dsimp -zeta only
  try extract_lets j1
  refine step_eq rfl _ _ _ (fun h h' => ?_) ?_
  · rfl
  try subst j1
  refine (bind_pure _).trans ?_
  by_cases h : cond 9#32 x = 1#1
  · exact (dif_pos h).trans (if_pos h).symm
  · exact (dif_neg h).trans (if_neg h).symm

/-- The two body tables are one. -/
theorem ideal_defs₀ : Cert.KernelIdeal.defs₀ (F := F) = defs₀ (F := F) := by
  unfold Cert.KernelIdeal.defs₀ defs₀
  refine congrArg Defs.onTc (funext fun l => funext fun x => ?_)
  match l, x with
  | ⟨0, _⟩, (t, s) =>
    show Cert.KernelIdeal.cc0__body (F := F) _ _ _ _ _ _ _ _ _ _ _ _ _ _ _ _ _ _ _ _ _ _ _ _ _ _ _ _ _ _ _ _ _ _ _ = cc0__body (F := F) _ _ _ _ _ _ _ _ _ _ _ _ _ _ _ _ _ _ _ _ _ _ _ _ _ _ _ _ _ _ _ _ _ _ _
    rw [ideal_body, body_eq]
    rfl

theorem ideal_defs : Cert.KernelIdeal.defs (F := F) = defs (F := F) :=
  congrArg (Pipeline.defs (pcfgs (F := F))) ideal_defs₀

theorem ideal_main : Cert.KernelIdeal.main (F := F) = main (F := F) := rfl

/-- What every run of the kernel ends in, every run of the ideal program ends in. -/
theorem ideal_run (s : MemSt nD τ sig (Elt F)) (P : PUnit × MemSt nD τ sig (Elt F) → Prop) (h : θ_run defs (onTc (τ := τ) (main (F := F))) s P) :
    θ_run Cert.KernelIdeal.defs (onTc (τ := Cert.KernelIdeal.τ) (Cert.KernelIdeal.main (F := F))) s P := by
  rw [ideal_defs]
  exact h

end Cert.Kernel.Value
-- ==== Proof.Frames.lean ====
module

public import proofs.«01_k».proof.Defs
public import proofs.«01_k».proof.Proof.Twin
public import proofs.«01_k».proof.Proof.Gen.ReferenceIdeal
public import proofs.«01_k».proof.Proof.Gen.ReferenceIdeal.Run
public import proofs.«01_k».proof.Proof.Gen.Pre_in_range
public import Idealize.ShloMosaic.Lib.Quiescent

/-! The frames: the kernel, its idealization and the reference leave their arguments as they were and every counter at zero. -/

@[expose] public section

set_option maxRecDepth 16384

noncomputable section

namespace Cert.Proof

open Idealize.ShloMosaic Idealize.ShloMosaic.TcCoe Idealize.SL.Sem

/-- The kernel's run, its words in range by the precondition. -/
theorem frame_kernel : Cert.quiescent_Kernel := fun m g h =>
  (θ_run _ _ _).mono (fun r h => ⟨fun c => (h.1 c).2, h.2⟩)
    (Cert.Kernel.Value.main_run m g (Cert.Kernel.Value.words_lt m (Cert.Kernel.Value.word_lt _ _ _ _ _ _ _ _ _ _ _ _ _ _ (h 0))))

/-- The table's words are in range in every memory that meets the idealization's precondition. -/
theorem words_lt_ideal (m : (ℓ : Loc Cert.KernelIdeal.nD Cert.KernelIdeal.τ Cert.KernelIdeal.sig) → Buf (Elt Ideal) ℓ) (h : Cert.Pre_KernelIdeal m) :
    ∀ i, (Cert.Kernel.Value.words (F := Ideal) m i).toNat < 1000 :=
  Cert.Kernel.Value.words_lt (F := Ideal) m (Cert.Kernel.Value.word_lt (F := Ideal) _ _ _ _ _ _ _ _ _ _ _ _ _ _ (h 0))

/-- The idealization's run, the kernel's at the extended reals. -/
theorem frame_ideal : Cert.quiescent_KernelIdeal := fun m g h =>
  Cert.Kernel.Value.ideal_run (F := Ideal) _ _
    ((θ_run (Cert.Kernel.defs (F := Ideal)) (onTc (τ := Cert.Kernel.τ) (Cert.Kernel.main (F := Ideal))) ⟨m, fun _ => 0, g⟩).mono
      (fun _ h => ⟨fun c => (h.1 c).2, h.2⟩)
      (Cert.Kernel.Value.main_run (F := Ideal) m g (words_lt_ideal m h)))

/-- The reference's run; it declares no counter. -/
theorem frame_reference : Cert.quiescent_ReferenceIdeal := fun m g _ =>
  (θ_run (Cert.ReferenceIdeal.defs (F := Ideal)) (onTc (τ := Cert.ReferenceIdeal.τ) (Cert.ReferenceIdeal.main (F := Ideal))) ⟨m, fun _ => 0, g⟩).mono
    (fun r h => ⟨fun c => (h c).2, sem_eq_zero_of_no_sems (by decide) r.2⟩)
    (Cert.ReferenceIdeal.Value.run (F := Ideal) m g)

end Cert.Proof

end
-- ==== Proof.Math.lean ====
module

public import proofs.«01_k».proof.Proof.Last
public import Idealize.ShloMosaic.Lib.Pointwise

/-! What the last grid point stores, entry by entry, at the extended reals. Graph `b`'s entry is a sum over the 128 lanes
of two heads, each clamped below at zero and weighted by its half of the last layer's weights, plus the last bias. -/

@[expose] public section

set_option maxRecDepth 16384

noncomputable section

namespace Cert.Kernel.Value

open Idealize.ShloMosaic
open Cert.Kernel.Gen

/-- One product with its bias: row `b` of `A` times column `l` of `w`, plus `v` at `l`. -/
def affine (A : S100x128.Idx → EReal) (w : S128x128.Idx → EReal) (v : S128.Idx → EReal) (b : Fin 100) (l : Fin 128) : EReal :=
  (∑ k : Fin 128, A (ix2 b k) * w (ix2 k l)) + v (ix1 l)

/-- The current node's head: its row through one product, the action's and the state's scalar through a row of weights each. -/
def headOf (G : S100x128.Idx → EReal) (action state : Fin 100 → EReal) (w : S128x128.Idx → EReal) (x10 : S128.Idx → EReal)
    (x11 : S1x128.Idx → EReal) (x12 : S128.Idx → EReal) (x13 : S1x128.Idx → EReal) (x14 : S128.Idx → EReal) (b : Fin 100) (l : Fin 128) : EReal :=
  affine G w x10 b l + action b * x11 (ix2 0 l) + x12 (ix1 l) + state b * x13 (ix2 0 l) + x14 (ix1 l)

/-- Graph `b`'s entry of the result. -/
def entry (A G : S100x128.Idx → EReal) (action state : Fin 100 → EReal) (w5 : Fin 256 → EReal) (x6 : S1.Idx → EReal)
    (x7 : S128x128.Idx → EReal) (x8 : S128.Idx → EReal) (x9 : S128x128.Idx → EReal) (x10 : S128.Idx → EReal)
    (x11 : S1x128.Idx → EReal) (x12 : S128.Idx → EReal) (x13 : S1x128.Idx → EReal) (x14 : S128.Idx → EReal) (b : Fin 100) : EReal :=
  (∑ l : Fin 128, (max (affine A x7 x8 b l) 0 * w5 ⟨l.val, by omega⟩
    + max (headOf G action state x9 x10 x11 x12 x13 x14 b l) 0 * w5 ⟨128 + l.val, by omega⟩)) + x6 (ix1 0)

theorem outOf_apply (A G : S100x128.Idx → EReal) (x3 x4 : S1x100.Idx → EReal) (x5 : S256.Idx → EReal) (x6 : S1.Idx → EReal)
    (x7 : S128x128.Idx → EReal) (x8 : S128.Idx → EReal) (x9 : S128x128.Idx → EReal) (x10 : S128.Idx → EReal)
    (x11 : S1x128.Idx → EReal) (x12 : S128.Idx → EReal) (x13 : S1x128.Idx → EReal) (x14 : S128.Idx → EReal) (b : Fin 100) :
    (outOf (F := Ideal) A G x3 x4 x5 x6 x7 x8 x9 x10 x11 x12 x13 x14 : S1x100.Idx → EReal) (ix2 0 b) =
      entry A G (fun b => x3 (ix2 0 b)) (fun b => x4 (ix2 0 b)) (fun k => x5 (ix1 k)) x6 x7 x8 x9 x10 x11 x12 x13 x14 b := by
  unfold outOf k0_pay5 k0_pay106 k0_pay107 k0_pay108 k0_pay109 k0_pay110 k0_pay111 k0_pay112 entry headOf affine
  pointwise

/-- A block's sum over its nodes. -/
theorem blockSum_apply (x : S10x1000x128.Idx → EReal) (g : Fin 10) (l : Fin 128) :
    (k0_pay113 (F := Ideal) x : S10x128.Idx → EReal) (ix2 g l) = ∑ n : Fin 1000, x (ix3 g n l) := by
  unfold k0_pay113
  pointwise

end Cert.Kernel.Value

end
-- ==== Proof.Plain.lean ====
module

public import proofs.«01_k».proof.Proof.Math
public import proofs.«01_k».proof.Proof.Gen.ReferenceIdeal
public import proofs.«01_k».proof.Proof.Gen.ReferenceIdeal.Run
public import Idealize.ShloMosaic.Lib.ReduceAll
public import Idealize.ShloMosaic.Lib.Tactic.CleanTypes

/-! The reference, entry by entry, at the extended reals. The current node's row is a gather along the nodes: the word is
wrapped where negative, the start clamped into the axis and the row replaced by NaN where the word is out of range. For words
in range all three leave the row that the word names. What is left is `entry` of the pooled rows and the gathered rows. -/

@[expose] public section

set_option maxRecDepth 16384

noncomputable section

namespace Cert.ReferenceIdeal.Plain

open Cert.ReferenceIdeal Cert.ReferenceIdeal.Gen Idealize.ShloMosaic Idealize.ShloMosaic.TcCoe Idealize.SL.Sem

/-- The words on a column of their own, times one. -/
def column (a1 : S100.Idx → BitVec 32) : S100x1x1.Idx → BitVec 32 :=
  muli (broadcastInDim S100x1x1 ![0] bcast_S100_S100x1x1_0 a1) (broadcastInDim S100x1x1 ![0, 1, 2] bcast_S1x1x1_S100x1x1_0_1_2 (broadcastInDim S1x1x1 ![] bcast_S_S1x1x1 (constantI S_ 32 1#32)))

/-- The words, a negative one wrapped round the 1000 nodes. -/
def wrapped (a1 : S100.Idx → BitVec 32) : S100x1x1.Idx → BitVec 32 :=
  select (cmpi .slt (column a1) (broadcastInDim S100x1x1 ![] bcast_S_S100x1x1 (constantI S_ 32 0#32))) (addi (column a1) (broadcastInDim S100x1x1 ![] bcast_S_S100x1x1 (constantI S_ 32 1000#32))) (column a1)

/-- Whether a wrapped word is in range. -/
def inRange (a1 : S100.Idx → BitVec 32) : S100x1x1.Idx → BitVec 1 :=
  andi (cmpi .sge (wrapped a1) (broadcastInDim S100x1x1 ![] bcast_S_S100x1x1 (constantI S_ 32 0#32))) (cmpi .sle (wrapped a1) (broadcastInDim S100x1x1 ![0, 1, 2] bcast_S1x1x1_S100x1x1_0_1_2 (broadcastInDim S1x1x1 ![2] bcast_S1_S1x1x1_2 (constantI S1 32 999#32))))

/-- The gathered rows. -/
def current (a0 : S100x1000x128.Idx → EReal) (a1 : S100.Idx → BitVec 32) : S100x128.Idx → EReal :=
  shapeCast S100x128 (select (broadcastInDim S100x1x128 ![0, 1] bcast_S100x1_S100x1x128_0_1 (Host.reduce IntOp.andi (inRange a1) (constantI S_ 1 1#1) reducesTo_S100x1x1_S100x1_d2 h_S_))
    (Host.gather gather_S100x1000x128_S100x1x1_S100x1x128_2_1_0_0_1_2_11128 a0 (wrapped a1))
    (broadcastInDim S100x1x128 ![] bcast_S_S100x1x128 (constant (F := Ideal) S_ .f32 0x7FC00000#32))) shapeCasts_S100x1x128_S100x128

/-- The pooled rows. -/
def pooled (a0 : S100x1000x128.Idx → EReal) : S100x128.Idx → EReal :=
  Host.reduceAdd (F := Ideal) (φ := .f32) a0 (constant S_ .f32 0x00000000#32) reducesTo_S100x1000x128_S100x128_d1 h_S_

/-- The reference of its pooled and gathered rows. -/
def headsOf (A G : FVec Ideal S100x128 .f32) (a2 a3 : FVec Ideal S100x1 .f32) (a4 : FVec Ideal S256x1 .f32) (a5 : FVec Ideal S1 .f32)
    (a6 : FVec Ideal S128x128 .f32) (a7 : FVec Ideal S128 .f32) (a8 : FVec Ideal S128x128 .f32) (a9 : FVec Ideal S128 .f32)
    (a10 : FVec Ideal S1x128 .f32) (a11 : FVec Ideal S128 .f32) (a12 : FVec Ideal S1x128 .f32) (a13 : FVec Ideal S128 .f32) : FVec Ideal S100x1 .f32 :=
  addf (Host.dotGeneral dot_S100x256_S256x1_S100x1_1_0_0_1_n_n none
    (maximumf (concatenate S100x256 1 [⟨S100x128, (addf (Host.dotGeneral dot_S100x128_S128x128_S100x128_1_0_0_1_n_n none A a6) (broadcastInDim S100x128 ![0, 1] bcast_S1x128_S100x128_0_1 (broadcastInDim S1x128 ![1] bcast_S128_S1x128_1 a7)))⟩,
      ⟨S100x128, (addf (addf (addf (addf (addf (Host.dotGeneral dot_S100x128_S128x128_S100x128_1_0_0_1_n_n none G a8) (broadcastInDim S100x128 ![0, 1] bcast_S1x128_S100x128_0_1 (broadcastInDim S1x128 ![1] bcast_S128_S1x128_1 a9))) (Host.dotGeneral dot_S100x1_S1x128_S100x128_1_0_0_1_n_n none a2 a10)) (broadcastInDim S100x128 ![0, 1] bcast_S1x128_S100x128_0_1 (broadcastInDim S1x128 ![1] bcast_S128_S1x128_1 a11))) (Host.dotGeneral dot_S100x1_S1x128_S100x128_1_0_0_1_n_n none a3 a12)) (broadcastInDim S100x128 ![0, 1] bcast_S1x128_S100x128_0_1 (broadcastInDim S1x128 ![1] bcast_S128_S1x128_1 a13)))⟩] concatenates_S100x128_S100x128_S100x256_d1)
      (broadcastInDim S100x256 ![] bcast_S_S100x256 (constant S_ .f32 0x00000000#32))) a4)
    (broadcastInDim S100x1 ![0, 1] bcast_S1x1_S100x1_0_1 (broadcastInDim S1x1 ![1] bcast_S1_S1x1_1 a5))

theorem column_apply (a1 : S100.Idx → BitVec 32) (b : Fin 100) : column a1 (ix3 b 0 0) = a1 (ix1 b) := by
  unfold column
  pointwise
  exact BitVec.mul_one _

/-- A word under 1000 reads the same signed and unsigned. -/
theorem toInt_of_lt {x : BitVec 32} (h : x.toNat < 1000) : x.toInt = x.toNat :=
  BitVec.toInt_eq_toNat_of_lt (by omega)

theorem wrapped_apply (a1 : S100.Idx → BitVec 32) (h : ∀ i, (a1 i).toNat < 1000) (b : Fin 100) : wrapped a1 (ix3 b 0 0) = a1 (ix1 b) := by
  unfold wrapped
  pointwise [column_apply]
  have e : IntOp.cmpi .slt (a1 (ix1 b)) 0#32 ≠ 1#1 := fun e => by
    have e := IntOp.cmpi_slt.1 e
    rw [toInt_of_lt (h _)] at e
    exact absurd e (by simp)
  exact if_neg e

theorem inRange_apply (a1 : S100.Idx → BitVec 32) (h : ∀ i, (a1 i).toNat < 1000) (b : Fin 100) : inRange a1 (ix3 b 0 0) = 1#1 := by
  unfold inRange
  pointwise [wrapped_apply a1 h]
  have e := h (ix1 b)
  have h0 : IntOp.cmpi .sge (a1 (ix1 b)) 0#32 = 1#1 := IntOp.cmpi_sge.2 (by rw [toInt_of_lt e]; simp)
  have h1 : IntOp.cmpi .sle (a1 (ix1 b)) 999#32 = 1#1 := IntOp.cmpi_sle.2 (by
    rw [toInt_of_lt e, toInt_of_lt (x := 999#32) (by decide)]
    have : (999#32).toNat = 999 := rfl
    omega)
  rw [h0, h1]
  rfl

/-- The gather at graph `b` and lane `l`: graph `b`'s row at its word, clamped into the nodes. -/
theorem gather_apply (a0 : S100x1000x128.Idx → EReal) (w : S100x1x1.Idx → BitVec 32) (b : Fin 100) (l : Fin 128) :
    Host.gather gather_S100x1000x128_S100x1x1_S100x1x128_2_1_0_0_1_2_11128 a0 w (ix3 b 0 l) =
      a0 (ix3 b (⟨min (w (ix3 b 0 0)).toInt.toNat 999, by omega⟩ : Fin 1000) l) := by
  unfold Host.gather
  refine congrArg a0 (funext fun a => Fin.ext ?_)
  match a with
  | ⟨0, _⟩ => show 0 + b.val + 0 = b.val; omega
  | ⟨1, _⟩ =>
    have e : gather_S100x1000x128_S100x1x1_S100x1x128_2_1_0_0_1_2_11128.siIdx (ix3 b 0 l) ⟨0, by decide⟩ = ix3 b 0 0 := by
      funext a
      match a with
      | ⟨0, _⟩ => rfl
      | ⟨1, _⟩ => rfl
      | ⟨2, _⟩ => rfl
    show min (w (gather_S100x1000x128_S100x1x1_S100x1x128_2_1_0_0_1_2_11128.siIdx (ix3 b 0 l) ⟨0, by decide⟩)).toInt.toNat 999 + 0 + 0 = _
    rw [e]
    rfl
  | ⟨2, _⟩ => show 0 + 0 + l.val = l.val; omega

theorem current_apply (a0 : S100x1000x128.Idx → EReal) (a1 : S100.Idx → BitVec 32) (h : ∀ i, (a1 i).toNat < 1000) (b : Fin 100) (l : Fin 128) :
    current a0 a1 (ix2 b l) = a0 (ix3 b (⟨(a1 (ix1 b)).toNat, h _⟩ : Fin 1000) l) := by
  have e : Host.reduce IntOp.andi (inRange a1) (constantI S_ 1 1#1) reducesTo_S100x1x1_S100x1_d2 h_S_ = fun _ => 1#1 :=
    funext fun j => Host.reduce_andi_one _ _ _ _ _ rfl fun i => by
      idx_vars i
      obtain rfl : i1 = 0 := Subsingleton.elim _ _
      obtain rfl : i2 = 0 := Subsingleton.elim _ _
      exact inRange_apply a1 h i0
  unfold current
  rw [e]
  pointwise
  rw [gather_apply]
  refine congrArg (fun n => a0 (ix3 b n l)) (Fin.ext ?_)
  show min (wrapped a1 (ix3 b 0 0)).toInt.toNat 999 = _
  have := h (ix1 b)
  rw [wrapped_apply a1 h, toInt_of_lt this]
  exact Nat.min_eq_left (Nat.le_of_lt_succ this)

theorem pooled_apply (a0 : S100x1000x128.Idx → EReal) (b : Fin 100) (l : Fin 128) :
    pooled a0 (ix2 b l) = ∑ n : Fin 1000, a0 (ix3 b n l) := by
  unfold pooled
  pointwise

theorem headsOf_apply (A G : FVec Ideal S100x128 .f32) (a2 a3 : FVec Ideal S100x1 .f32) (a4 : FVec Ideal S256x1 .f32) (a5 : FVec Ideal S1 .f32)
    (a6 : FVec Ideal S128x128 .f32) (a7 : FVec Ideal S128 .f32) (a8 : FVec Ideal S128x128 .f32) (a9 : FVec Ideal S128 .f32)
    (a10 : FVec Ideal S1x128 .f32) (a11 : FVec Ideal S128 .f32) (a12 : FVec Ideal S1x128 .f32) (a13 : FVec Ideal S128 .f32) (b : Fin 100) :
    headsOf A G a2 a3 a4 a5 a6 a7 a8 a9 a10 a11 a12 a13 (ix2 b 0) =
      Cert.Kernel.Value.entry A G (fun b => a2 (ix2 b 0)) (fun b => a3 (ix2 b 0)) (fun k => a4 (ix2 k 0)) a5 a6 a7 a8 a9 a10 a11 a12 a13 b := by
  unfold headsOf Cert.Kernel.Value.entry Cert.Kernel.Value.headOf Cert.Kernel.Value.affine
  pointwise
  simp only [Finset.univ_unique, Finset.sum_singleton, Finset.sum_add_distrib]
  rfl

/-- What a run of the reference returns, by its parts. -/
theorem res_eq (m : (ℓ : Loc nD τ sig) → Buf (Elt Ideal) ℓ) (c : Dev nD) :
    Value.res_main_v30 m c = headsOf (pooled (m ((c.tc : Thread nD τ).loc main_arg0))) (current (m ((c.tc : Thread nD τ).loc main_arg0)) (m ((c.tc : Thread nD τ).loc main_arg1)))
      (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) (m ((c.tc : Thread nD τ).loc main_arg12)) (m ((c.tc : Thread nD τ).loc main_arg13)) := rfl

end Cert.ReferenceIdeal.Plain

end
-- ==== Proof.Value.lean ====
module

public import proofs.«01_k».proof.Proof.Ends
public import proofs.«01_k».proof.Proof.Plain

/-! The kernel's result is the reference's, entry by entry, at the extended reals: both are `entry` of the pooled rows and of
the rows that the words name. -/

@[expose] public section

set_option maxRecDepth 16384

noncomputable section

namespace Cert.Kernel.Value

open Idealize.ShloMosaic Idealize.ShloMosaic.TcCoe Idealize.SL.Sem
open Cert.Kernel Cert.Kernel.Gen

variable (m : (ℓ : Loc nD τ sig) → Buf (Elt Ideal) ℓ) (hO : Ok (F := Ideal) m) (hX : ∀ i, (words (F := Ideal) m i).toNat < 1000)

/-- The first reshape: the actions as a row. -/
theorem V_main_v0 (c : Dev nD) : (V m c main_v0 : S1x100.Idx → EReal) = shapeCast S1x100 (m ((c : Thread nD τ).loc main_arg2) : S100x1.Idx → EReal) shapeCasts_S100x1_S1x100 := by
  unfold V V0
  simp only [hostOps0, List.flatten_cons, List.flatten_nil, List.append_nil, StableHlo.after_cons, StableHlo.after_nil]
  rw [StableHlo.reshape_result_ne (h := by decide), StableHlo.reshape_result_ne (h := by decide), StableHlo.reshape_result]
  rfl

/-- The second reshape: the states as a row. -/
theorem V_main_v1 (c : Dev nD) : (V m c main_v1 : S1x100.Idx → EReal) = shapeCast S1x100 (m ((c : Thread nD τ).loc main_arg3) : S100x1.Idx → EReal) shapeCasts_S100x1_S1x100 := by
  unfold V V0
  simp only [hostOps0, List.flatten_cons, List.flatten_nil, List.append_nil, StableHlo.after_cons, StableHlo.after_nil]
  rw [StableHlo.reshape_result_ne (h := by decide), StableHlo.reshape_result, StableHlo.reshape_result_ne (h := by decide)]
  rfl

/-- The third reshape: the last layer's weights as a vector. -/
theorem V_main_v2 (c : Dev nD) : (V m c main_v2 : S256.Idx → EReal) = shapeCast S256 (m ((c : Thread nD τ).loc main_arg4) : S256x1.Idx → EReal) shapeCasts_S256x1_S256 := by
  unfold V V0
  simp only [hostOps0, List.flatten_cons, List.flatten_nil, List.append_nil, StableHlo.after_cons, StableHlo.after_nil]
  rw [StableHlo.reshape_result, StableHlo.reshape_result_ne (h := by decide), StableHlo.reshape_result_ne (h := by decide)]
  rfl

/-- The sums are the pooled rows. -/
theorem sums_eq (c : Dev nD) (b : Fin 100) (l : Fin 128) :
    (sums (F := Ideal) m hO c : S100x128.Idx → EReal) (ix2 b l) = ∑ n : Fin 1000, (feat (F := Ideal) m c : S100x1000x128.Idx → EReal) (ix3 b n l) := by
  have ht : b.val / 10 < (cfgM (F := Ideal) m hO).N := by show b.val / 10 < 10; omega
  have h : 10 * (b.val / 10) + b.val % 10 < 100 := by omega
  have e := sums_apply (F := Ideal) m hO c (⟨b.val / 10, ht⟩ : Fin (cfgM (F := Ideal) m hO).N) (⟨b.val % 10, Nat.mod_lt _ (by decide)⟩ : Fin 10) l h
  have hb : (⟨10 * (b.val / 10) + b.val % 10, h⟩ : Fin 100) = b := Fin.ext (Nat.div_add_mod _ _)
  refine ((congrArg (fun b' : Fin 100 => (sums (F := Ideal) m hO c : S100x128.Idx → EReal) (ix2 b' l)) hb).symm.trans e).trans ?_
  refine (blockSum_apply _ _ _).trans (Finset.sum_congr rfl fun n _ => ?_)
  refine (block_apply (F := Ideal) m hO c _ _ n l h).trans ?_
  exact congrArg (fun b' : Fin 100 => (feat (F := Ideal) m c : S100x1000x128.Idx → EReal) (ix3 b' n l)) hb

/-- The sums, as one array. -/
theorem sums_pooled (c : Dev nD) : (sums (F := Ideal) m hO c : S100x128.Idx → EReal) = Cert.ReferenceIdeal.Plain.pooled (m ((c : Thread nD τ).loc main_arg0)) := by
  funext j
  idx_vars j
  rw [sums_eq, Cert.ReferenceIdeal.Plain.pooled_apply]
  unfold feat
  rw [V_main_arg0]

/-- The copied rows, as one array. -/
theorem rows_current (c : Dev nD) : (rows (F := Ideal) m hX c : S100x128.Idx → EReal) = Cert.ReferenceIdeal.Plain.current (m ((c : Thread nD τ).loc main_arg0)) (words (F := Ideal) m) := by
  funext j
  idx_vars j
  rw [Cert.ReferenceIdeal.Plain.current_apply _ _ hX]
  unfold rows feat
  rw [V_main_arg0]
  rfl

/-- The kernel's result is the reference's heads of the pooled and of the gathered rows. -/
theorem result_eq (c : Dev nD) : (result (F := Ideal) m hO hX c : S100x1.Idx → EReal) =
    Cert.ReferenceIdeal.Plain.headsOf (Cert.ReferenceIdeal.Plain.pooled (m ((c : Thread nD τ).loc main_arg0))) (Cert.ReferenceIdeal.Plain.current (m ((c : Thread nD τ).loc main_arg0)) (words (F := Ideal) m))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) (m ((c : Thread nD τ).loc main_arg13)) := by
  funext j
  idx_vars j
  obtain rfl : j1 = 0 := Subsingleton.elim _ _
  rw [Cert.ReferenceIdeal.Plain.headsOf_apply, ← sums_pooled m hO c, ← rows_current m hX c]
  have e : (result (F := Ideal) m hO hX c : S100x1.Idx → EReal) (ix2 j0 0) = (outRow (F := Ideal) m hO hX c : S1x100.Idx → EReal) (ix2 0 j0) := by
    unfold result
    pointwise
  rw [e]
  unfold outRow
  rw [outOf_apply, V_main_v0, V_main_v1, V_main_v2, V_main_arg5, V_main_arg6, V_main_arg7, V_main_arg8, V_main_arg9, V_main_arg10, V_main_arg11, V_main_arg12, V_main_arg13]
  have e0 : (fun b : Fin 100 => shapeCast S1x100 (m ((c : Thread nD τ).loc main_arg2) : S100x1.Idx → EReal) shapeCasts_S100x1_S1x100 (ix2 0 b)) = fun b => (m ((c : Thread nD τ).loc main_arg2) : S100x1.Idx → EReal) (ix2 b 0) := by
    funext b; pointwise
  have e1 : (fun b : Fin 100 => shapeCast S1x100 (m ((c : Thread nD τ).loc main_arg3) : S100x1.Idx → EReal) shapeCasts_S100x1_S1x100 (ix2 0 b)) = fun b => (m ((c : Thread nD τ).loc main_arg3) : S100x1.Idx → EReal) (ix2 b 0) := by
    funext b; pointwise
  have e2 : (fun k : Fin 256 => shapeCast S256 (m ((c : Thread nD τ).loc main_arg4) : S256x1.Idx → EReal) shapeCasts_S256x1_S256 (ix1 k)) = fun k => (m ((c : Thread nD τ).loc main_arg4) : S256x1.Idx → EReal) (ix2 k 0) := by
    funext k; pointwise
  rw [e0, e1, e2]

/-- The same, for a reference launched on the kernel's arguments. -/
theorem result_res (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13)) :
    Cert.ReferenceIdeal.Value.res_main_v30 m' c = (result (F := Ideal) m hO hX c : S100x1.Idx → EReal) := by
  rw [result_eq, Cert.ReferenceIdeal.Plain.res_eq, words_eq, h0, h1, h2, h3, h4, h5, h6, h7, h8, h9, h10, h11, h12, h13]
  obtain rfl : c = 0 := Subsingleton.elim _ _
  rfl

end Cert.Kernel.Value

end
-- ==== Proof.Algebraic.lean ====
module

public import proofs.«01_k».proof.Proof.Frames
public import proofs.«01_k».proof.Proof.Value

/-! The idealized kernel and the reference end with the same array. -/

@[expose] public section

set_option maxRecDepth 16384

noncomputable section

namespace Cert.Proof

open Idealize.ShloMosaic Idealize.ShloMosaic.TcCoe Idealize.SL.Sem

/-- From memories that agree on the arguments, words in range, both runs end with `result`. -/
theorem algebraic : Cert.algebraic_KernelIdeal_ReferenceIdeal := fun m g m' g' h e =>
  ⟨fun c => Cert.Kernel.Value.result (F := Ideal) m (Cert.Kernel.Value.ok (F := Ideal) m) (words_lt_ideal m h) c,
    Cert.Kernel.Value.ideal_run (F := Ideal) _ _
      ((θ_run (Cert.Kernel.defs (F := Ideal)) (onTc (τ := Cert.Kernel.τ) (Cert.Kernel.main (F := Ideal))) ⟨m, fun _ => 0, g⟩).mono
        (fun _ r => r.1) (Cert.Kernel.Value.main_run (F := Ideal) m g (words_lt_ideal m h))),
    (θ_run (Cert.ReferenceIdeal.defs (F := Ideal)) (onTc (τ := Cert.ReferenceIdeal.τ) (Cert.ReferenceIdeal.main (F := Ideal))) ⟨m', fun _ => 0, g'⟩).mono
      (fun _ r c => ⟨(r c).1.trans (by
        obtain ⟨h0, h1, h2, h3, h4, h5, h6, h7, h8, h9, h10, h11, h12, h13⟩ := e c
        exact Cert.Kernel.Value.result_res m _ _ m' c h0 h1 h2 h3 h4 h5 h6 h7 h8 h9 h10 h11 h12 h13), (r c).2⟩)
      (Cert.ReferenceIdeal.Value.run (F := Ideal) m' g')⟩

end Cert.Proof

end
-- ==== Proof.lean ====
module

public import proofs.«01_k».proof.Defs
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_range.Gen.facts,
  frame_kernel, frame_ideal, frame_reference, trivial, algebraic⟩

end Cert.Proof

end
